-- ==== Defs.lean ====
def Pre_Kernel [hPre_codes_in_range : Cert.Pre_codes_in_range.Facts] (m : (ℓ : Loc Cert.Kernel.nD Cert.Kernel.τ Cert.Kernel.sig) → Buf (Elt Bits) ℓ) : Prop :=
  ∀ c : Dev Cert.Kernel.nD,
    (Cert.Pre_codes_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_codes_in_range : Cert.Pre_codes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_codes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_in_range [hPre_codes_in_range : Cert.Pre_codes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_codes_in_range : Cert.Pre_codes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_codes_in_range [hReferenceIdeal : Cert.ReferenceIdeal.Facts] [hPre_codes_in_range : Cert.Pre_codes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_codes_in_range : Cert.Pre_codes_in_range.Facts),
    quiescent_Kernel (hKernel := hKernel) (hPre_codes_in_range := hPre_codes_in_range)
    ∧ quiescent_KernelIdeal (hKernelIdeal := hKernelIdeal) (hPre_codes_in_range := hPre_codes_in_range)
    ∧ quiescent_ReferenceIdeal (hReferenceIdeal := hReferenceIdeal)
    ∧ quiescent_ReferenceIdeal_pre_codes_in_range (hReferenceIdeal := hReferenceIdeal) (hPre_codes_in_range := hPre_codes_in_range)
    ∧ preserves_Kernel_KernelIdeal
    ∧ algebraic_KernelIdeal_ReferenceIdeal (hKernelIdeal := hKernelIdeal) (hReferenceIdeal := hReferenceIdeal) (hPre_codes_in_range := hPre_codes_in_range)
-- ==== Pre_codes_in_range.lean ====
abbrev S65536x8 : Shape := ⟨2, ![65536, 8]⟩
abbrev S8x1024x64 : Shape := ⟨3, ![8, 1024, 64]⟩
abbrev S_ : Shape := ⟨0, ![]⟩

class Facts : Prop where
  bcast_S_S65536x8 : S_.BroadcastsInDim S65536x8 (![] : Fin 0 → Fin S65536x8.rank)
  reducesTo_S65536x8_S_d0_1 : S65536x8.ReducesTo [0, 1] S_
  h_S_ : 0 < S_.numel

variable [Facts]

def fn {F : FTy → Type} [FloatOps F] (main_arg0 : IVec S65536x8 32) (main_arg1 : FVec F S8x1024x64 .f32) : IVec S_ 1 :=
  let main_c : IVec S_ 32 := constantI S_ 32 0#32
  let main_v0 : IVec S65536x8 32 := broadcastInDim S65536x8 ![] bcast_S_S65536x8 main_c
  let main_v1 : IVec S65536x8 1 := cmpi .sge main_arg0 main_v0
  let main_c_0 : IVec S_ 32 := constantI S_ 32 1024#32
  let main_v2 : IVec S65536x8 32 := broadcastInDim S65536x8 ![] bcast_S_S65536x8 main_c_0
  let main_v3 : IVec S65536x8 1 := cmpi .slt main_arg0 main_v2
  let main_v4 : IVec S65536x8 1 := andi main_v1 main_v3
  let main_c_1 : IVec S_ 1 := constantI S_ 1 1#1
  let main_v5 : IVec S_ 1 := (fun x v => Host.reduce IntOp.andi x v reducesTo_S65536x8_S_d0_1 h_S_) main_v4 main_c_1
  main_v5
-- ==== Kernel.lean ====
abbrev S65536x8 : Shape := ⟨2, ![65536, 8]⟩
abbrev S8x1024x64 : Shape := ⟨3, ![8, 1024, 64]⟩
abbrev S524288 : Shape := ⟨1, ![524288]⟩
abbrev S8192x64 : Shape := ⟨2, ![8192, 64]⟩
abbrev S_ : Shape := ⟨0, ![]⟩
abbrev S8192x128 : Shape := ⟨2, ![8192, 128]⟩
abbrev S65536x512 : Shape := ⟨2, ![65536, 512]⟩
abbrev S16384 : Shape := ⟨1, ![16384]⟩
abbrev S64x128 : Shape := ⟨2, ![64, 128]⟩
abbrev S8x512 : Shape := ⟨2, ![8, 512]⟩
abbrev S16 : Shape := ⟨1, ![16]⟩
abbrev S64 : Shape := ⟨1, ![64]⟩
abbrev S1x16 : Shape := ⟨2, ![1, 16]⟩

abbrev nBuf : Table → Nat
  | .hbm => 8
  | .shared => 1
  | .local .scVector .vmem => 5
  | _ => 0

abbrev bufTy : (tb : Table) → Fin (nBuf tb) → BufTy
  | .hbm, ⟨0, _⟩ => ⟨S65536x8, .i32⟩
  | .hbm, ⟨1, _⟩ => ⟨S8x1024x64, .f32⟩
  | .hbm, ⟨2, _⟩ => ⟨S524288, .i32⟩
  | .hbm, ⟨3, _⟩ => ⟨S8192x64, .f32⟩
  | .hbm, ⟨4, _⟩ => ⟨S_, .i32⟩
  | .hbm, ⟨5, _⟩ => ⟨S_, .f32⟩
  | .hbm, ⟨6, _⟩ => ⟨S8192x128, .f32⟩
  | .hbm, ⟨7, _⟩ => ⟨S65536x512, .f32⟩
  | .shared, ⟨0, _⟩ => ⟨S8192x128, .f32⟩
  | .local .scVector .vmem, ⟨0, _⟩ => ⟨S16384, .i32⟩
  | .local .scVector .vmem, ⟨1, _⟩ => ⟨S64x128, .f32⟩
  | .local .scVector .vmem, ⟨2, _⟩ => ⟨S64x128, .f32⟩
  | .local .scVector .vmem, ⟨3, _⟩ => ⟨S8x512, .f32⟩
  | .local .scVector .vmem, ⟨4, _⟩ => ⟨S8x512, .f32⟩
  | _, _ => ⟨S65536x8, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 5 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 2, rfl⟩
abbrev main_v2_scv : Ref sig .scVector := ⟨.hbm, 6, rfl⟩
abbrev main_v3_scv : Ref sig .scVector := ⟨.hbm, 7, rfl⟩
abbrev cc0_scratch9 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  ![v2.toNat]
@[reducible] def k0_t1_loop : Scf.Loop 32 :=
  let c0_i32_2 : BitVec 32 := 0#32
  let c1024_i32_3 : BitVec 32 := 1024#32
  let v12 : BitVec 32 := Scalar.addi c0_i32_2 c1024_i32_3
  let c1_i32 : BitVec 32 := 1#32
  ⟨c0_i32_2, v12, c1_i32⟩
def k0_off2 (k0_t1 : Fin k0_t1_loop.trips) : Fin 1 → Nat :=
  let c0_i32_2 : BitVec 32 := 0#32
  let c1_i32 : BitVec 32 := 1#32
  let arg15 : BitVec 32 := Scf.iv c0_i32_2 c1_i32 k0_t1
  let c16_i32 : BitVec 32 := 16#32
  let v54 : BitVec 32 := Scalar.muli arg15 c16_i32
  let v55 : Index := Scalar.indexCast v54
  ![v55.toNat]
@[reducible] def k0_t2_loop : Scf.Loop 32 :=
  let c0_i32_14 : BitVec 32 := 0#32
  let c8_i32_15 : BitVec 32 := 8#32
  let v19 : BitVec 32 := Scalar.addi c0_i32_14 c8_i32_15
  let c1_i32_16 : BitVec 32 := 1#32
  ⟨c0_i32_14, v19, c1_i32_16⟩
def k0_off3 (k0_t2 : Fin k0_t2_loop.trips) (c0_i32_69 : BitVec 32) : Fin 2 → Nat :=
  let c0_i32_14 : BitVec 32 := 0#32
  let c1_i32_16 : BitVec 32 := 1#32
  let arg15 : BitVec 32 := Scf.iv c0_i32_14 c1_i32_16 k0_t2
  let c8_i32_68 : BitVec 32 := 8#32
  let v54 : BitVec 32 := Scalar.muli arg15 c8_i32_68
  let v55 : BitVec 32 := Scalar.addi v54 c0_i32_69
  let v56 : Index := Scalar.indexCast v55
  let c0_70 : Index := 0#32
  ![v56.toNat, 0]
def k0_off4 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v59 : Index := Scalar.indexCast arg15
  let c0_71 : Index := 0#32
  ![v59.toNat, 0]
def k0_off5 (k0_t2 : Fin k0_t2_loop.trips) (c0_i32_73 : BitVec 32) : Fin 2 → Nat :=
  let c0_i32_14 : BitVec 32 := 0#32
  let c1_i32_16 : BitVec 32 := 1#32
  let arg15 : BitVec 32 := Scf.iv c0_i32_14 c1_i32_16 k0_t2
  let c8_i32_72 : BitVec 32 := 8#32
  let v63 : BitVec 32 := Scalar.muli arg15 c8_i32_72
  let v64 : BitVec 32 := Scalar.addi v63 c0_i32_73
  let v65 : Index := Scalar.indexCast v64
  let c16 : Index := 16#32
  ![v65.toNat, 16]
def k0_off6 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v68 : Index := Scalar.indexCast arg15
  let c16_74 : Index := 16#32
  ![v68.toNat, 16]
def k0_off7 (k0_t2 : Fin k0_t2_loop.trips) (c0_i32_76 : BitVec 32) : Fin 2 → Nat :=
  let c0_i32_14 : BitVec 32 := 0#32
  let c1_i32_16 : BitVec 32 := 1#32
  let arg15 : BitVec 32 := Scf.iv c0_i32_14 c1_i32_16 k0_t2
  let c8_i32_75 : BitVec 32 := 8#32
  let v72 : BitVec 32 := Scalar.muli arg15 c8_i32_75
  let v73 : BitVec 32 := Scalar.addi v72 c0_i32_76
  let v74 : Index := Scalar.indexCast v73
  let c32 : Index := 32#32
  ![v74.toNat, 32]
def k0_off8 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v77 : Index := Scalar.indexCast arg15
  let c32_77 : Index := 32#32
  ![v77.toNat, 32]
def k0_off9 (k0_t2 : Fin k0_t2_loop.trips) (c0_i32_79 : BitVec 32) : Fin 2 → Nat :=
  let c0_i32_14 : BitVec 32 := 0#32
  let c1_i32_16 : BitVec 32 := 1#32
  let arg15 : BitVec 32 := Scf.iv c0_i32_14 c1_i32_16 k0_t2
  let c8_i32_78 : BitVec 32 := 8#32
  let v81 : BitVec 32 := Scalar.muli arg15 c8_i32_78
  let v82 : BitVec 32 := Scalar.addi v81 c0_i32_79
  let v83 : Index := Scalar.indexCast v82
  let c48 : Index := 48#32
  ![v83.toNat, 48]
def k0_off10 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v86 : Index := Scalar.indexCast arg15
  let c48_80 : Index := 48#32
  ![v86.toNat, 48]
def k0_off11 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v95 : Index := Scalar.indexCast arg15
  let c64 : Index := 64#32
  ![v95.toNat, 64]
def k0_off12 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v104 : Index := Scalar.indexCast arg15
  let c80 : Index := 80#32
  ![v104.toNat, 80]
def k0_off13 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v113 : Index := Scalar.indexCast arg15
  let c96 : Index := 96#32
  ![v113.toNat, 96]
def k0_off14 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v122 : Index := Scalar.indexCast arg15
  let c112 : Index := 112#32
  ![v122.toNat, 112]
def k0_off15 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v131 : Index := Scalar.indexCast arg15
  let c128 : Index := 128#32
  ![v131.toNat, 128]
def k0_off16 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v140 : Index := Scalar.indexCast arg15
  let c144 : Index := 144#32
  ![v140.toNat, 144]
def k0_off17 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v149 : Index := Scalar.indexCast arg15
  let c160 : Index := 160#32
  ![v149.toNat, 160]
def k0_off18 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v158 : Index := Scalar.indexCast arg15
  let c176 : Index := 176#32
  ![v158.toNat, 176]
def k0_off19 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v167 : Index := Scalar.indexCast arg15
  let c192 : Index := 192#32
  ![v167.toNat, 192]
def k0_off20 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v176 : Index := Scalar.indexCast arg15
  let c208 : Index := 208#32
  ![v176.toNat, 208]
def k0_off21 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v185 : Index := Scalar.indexCast arg15
  let c224 : Index := 224#32
  ![v185.toNat, 224]
def k0_off22 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v194 : Index := Scalar.indexCast arg15
  let c240 : Index := 240#32
  ![v194.toNat, 240]
def k0_off23 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v203 : Index := Scalar.indexCast arg15
  let c256 : Index := 256#32
  ![v203.toNat, 256]
def k0_off24 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v212 : Index := Scalar.indexCast arg15
  let c272 : Index := 272#32
  ![v212.toNat, 272]
def k0_off25 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v221 : Index := Scalar.indexCast arg15
  let c288 : Index := 288#32
  ![v221.toNat, 288]
def k0_off26 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v230 : Index := Scalar.indexCast arg15
  let c304 : Index := 304#32
  ![v230.toNat, 304]
def k0_off27 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v239 : Index := Scalar.indexCast arg15
  let c320 : Index := 320#32
  ![v239.toNat, 320]
def k0_off28 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v248 : Index := Scalar.indexCast arg15
  let c336 : Index := 336#32
  ![v248.toNat, 336]
def k0_off29 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v257 : Index := Scalar.indexCast arg15
  let c352 : Index := 352#32
  ![v257.toNat, 352]
def k0_off30 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v266 : Index := Scalar.indexCast arg15
  let c368 : Index := 368#32
  ![v266.toNat, 368]
def k0_off31 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v275 : Index := Scalar.indexCast arg15
  let c384 : Index := 384#32
  ![v275.toNat, 384]
def k0_off32 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v284 : Index := Scalar.indexCast arg15
  let c400 : Index := 400#32
  ![v284.toNat, 400]
def k0_off33 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v293 : Index := Scalar.indexCast arg15
  let c416 : Index := 416#32
  ![v293.toNat, 416]
def k0_off34 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v302 : Index := Scalar.indexCast arg15
  let c432 : Index := 432#32
  ![v302.toNat, 432]
def k0_off35 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v311 : Index := Scalar.indexCast arg15
  let c448 : Index := 448#32
  ![v311.toNat, 448]
def k0_off36 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v320 : Index := Scalar.indexCast arg15
  let c464 : Index := 464#32
  ![v320.toNat, 464]
def k0_off37 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v329 : Index := Scalar.indexCast arg15
  let c480 : Index := 480#32
  ![v329.toNat, 480]
def k0_off38 (k0_t2 : Fin k0_t2_loop.trips) : Fin 2 → Nat :=
  let c0_i32_14 : BitVec 32 := 0#32
  let c1_i32_16 : BitVec 32 := 1#32
  let arg15 : BitVec 32 := Scf.iv c0_i32_14 c1_i32_16 k0_t2
  let v338 : Index := Scalar.indexCast arg15
  let c496 : Index := 496#32
  ![v338.toNat, 496]
def k0_off39 (i : grid0.Coords) (c0_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v3 : BitVec 32 := Scalar.muli v1 c2048_i32
  let v20 : BitVec 32 := Scalar.addi v3 c0_i32_18
  let c0_i32_19 : BitVec 32 := 0#32
  ![v20.toNat, 0]
def k0_off39_at (r : Fin 4) : BitVec 32 :=
  if r.val < 2 then
    if r.val < 1 then
      0#32
    else
      8#32
  else
    if r.val < 3 then
      2032#32
    else
      2040#32
@[reducible] def k0_t3_loop : Scf.Loop 32 :=
  let c0_i32_27 : BitVec 32 := 0#32
  let c8_i32_28 : BitVec 32 := 8#32
  let v27 : BitVec 32 := Scalar.addi c0_i32_27 c8_i32_28
  let c1_i32_29 : BitVec 32 := 1#32
  ⟨c0_i32_27, v27, c1_i32_29⟩
def k0_off40 (k0_t3 : Fin k0_t3_loop.trips) (c0_i32_69 : BitVec 32) : Fin 2 → Nat :=
  let c0_i32_27 : BitVec 32 := 0#32
  let c1_i32_29 : BitVec 32 := 1#32
  let arg15 : BitVec 32 := Scf.iv c0_i32_27 c1_i32_29 k0_t3
  let c8_i32_68 : BitVec 32 := 8#32
  let v54 : BitVec 32 := Scalar.muli arg15 c8_i32_68
  let v55 : BitVec 32 := Scalar.addi v54 c0_i32_69
  let v56 : Index := Scalar.indexCast v55
  let c0_70 : Index := 0#32
  ![v56.toNat, 0]
def k0_off41 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v59 : Index := Scalar.indexCast arg15
  let c0_71 : Index := 0#32
  ![v59.toNat, 0]
def k0_off42 (k0_t3 : Fin k0_t3_loop.trips) (c0_i32_73 : BitVec 32) : Fin 2 → Nat :=
  let c0_i32_27 : BitVec 32 := 0#32
  let c1_i32_29 : BitVec 32 := 1#32
  let arg15 : BitVec 32 := Scf.iv c0_i32_27 c1_i32_29 k0_t3
  let c8_i32_72 : BitVec 32 := 8#32
  let v63 : BitVec 32 := Scalar.muli arg15 c8_i32_72
  let v64 : BitVec 32 := Scalar.addi v63 c0_i32_73
  let v65 : Index := Scalar.indexCast v64
  let c16 : Index := 16#32
  ![v65.toNat, 16]
def k0_off43 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v68 : Index := Scalar.indexCast arg15
  let c16_74 : Index := 16#32
  ![v68.toNat, 16]
def k0_off44 (k0_t3 : Fin k0_t3_loop.trips) (c0_i32_76 : BitVec 32) : Fin 2 → Nat :=
  let c0_i32_27 : BitVec 32 := 0#32
  let c1_i32_29 : BitVec 32 := 1#32
  let arg15 : BitVec 32 := Scf.iv c0_i32_27 c1_i32_29 k0_t3
  let c8_i32_75 : BitVec 32 := 8#32
  let v72 : BitVec 32 := Scalar.muli arg15 c8_i32_75
  let v73 : BitVec 32 := Scalar.addi v72 c0_i32_76
  let v74 : Index := Scalar.indexCast v73
  let c32 : Index := 32#32
  ![v74.toNat, 32]
def k0_off45 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v77 : Index := Scalar.indexCast arg15
  let c32_77 : Index := 32#32
  ![v77.toNat, 32]
def k0_off46 (k0_t3 : Fin k0_t3_loop.trips) (c0_i32_79 : BitVec 32) : Fin 2 → Nat :=
  let c0_i32_27 : BitVec 32 := 0#32
  let c1_i32_29 : BitVec 32 := 1#32
  let arg15 : BitVec 32 := Scf.iv c0_i32_27 c1_i32_29 k0_t3
  let c8_i32_78 : BitVec 32 := 8#32
  let v81 : BitVec 32 := Scalar.muli arg15 c8_i32_78
  let v82 : BitVec 32 := Scalar.addi v81 c0_i32_79
  let v83 : Index := Scalar.indexCast v82
  let c48 : Index := 48#32
  ![v83.toNat, 48]
def k0_off47 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v86 : Index := Scalar.indexCast arg15
  let c48_80 : Index := 48#32
  ![v86.toNat, 48]
def k0_off48 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v95 : Index := Scalar.indexCast arg15
  let c64 : Index := 64#32
  ![v95.toNat, 64]
def k0_off49 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v104 : Index := Scalar.indexCast arg15
  let c80 : Index := 80#32
  ![v104.toNat, 80]
def k0_off50 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v113 : Index := Scalar.indexCast arg15
  let c96 : Index := 96#32
  ![v113.toNat, 96]
def k0_off51 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v122 : Index := Scalar.indexCast arg15
  let c112 : Index := 112#32
  ![v122.toNat, 112]
def k0_off52 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v131 : Index := Scalar.indexCast arg15
  let c128 : Index := 128#32
  ![v131.toNat, 128]
def k0_off53 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v140 : Index := Scalar.indexCast arg15
  let c144 : Index := 144#32
  ![v140.toNat, 144]
def k0_off54 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v149 : Index := Scalar.indexCast arg15
  let c160 : Index := 160#32
  ![v149.toNat, 160]
def k0_off55 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v158 : Index := Scalar.indexCast arg15
  let c176 : Index := 176#32
  ![v158.toNat, 176]
def k0_off56 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v167 : Index := Scalar.indexCast arg15
  let c192 : Index := 192#32
  ![v167.toNat, 192]
def k0_off57 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v176 : Index := Scalar.indexCast arg15
  let c208 : Index := 208#32
  ![v176.toNat, 208]
def k0_off58 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v185 : Index := Scalar.indexCast arg15
  let c224 : Index := 224#32
  ![v185.toNat, 224]
def k0_off59 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v194 : Index := Scalar.indexCast arg15
  let c240 : Index := 240#32
  ![v194.toNat, 240]
def k0_off60 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v203 : Index := Scalar.indexCast arg15
  let c256 : Index := 256#32
  ![v203.toNat, 256]
def k0_off61 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v212 : Index := Scalar.indexCast arg15
  let c272 : Index := 272#32
  ![v212.toNat, 272]
def k0_off62 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v221 : Index := Scalar.indexCast arg15
  let c288 : Index := 288#32
  ![v221.toNat, 288]
def k0_off63 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v230 : Index := Scalar.indexCast arg15
  let c304 : Index := 304#32
  ![v230.toNat, 304]
def k0_off64 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v239 : Index := Scalar.indexCast arg15
  let c320 : Index := 320#32
  ![v239.toNat, 320]
def k0_off65 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v248 : Index := Scalar.indexCast arg15
  let c336 : Index := 336#32
  ![v248.toNat, 336]
def k0_off66 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v257 : Index := Scalar.indexCast arg15
  let c352 : Index := 352#32
  ![v257.toNat, 352]
def k0_off67 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v266 : Index := Scalar.indexCast arg15
  let c368 : Index := 368#32
  ![v266.toNat, 368]
def k0_off68 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v275 : Index := Scalar.indexCast arg15
  let c384 : Index := 384#32
  ![v275.toNat, 384]
def k0_off69 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v284 : Index := Scalar.indexCast arg15
  let c400 : Index := 400#32
  ![v284.toNat, 400]
def k0_off70 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v293 : Index := Scalar.indexCast arg15
  let c416 : Index := 416#32
  ![v293.toNat, 416]
def k0_off71 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v302 : Index := Scalar.indexCast arg15
  let c432 : Index := 432#32
  ![v302.toNat, 432]
def k0_off72 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v311 : Index := Scalar.indexCast arg15
  let c448 : Index := 448#32
  ![v311.toNat, 448]
def k0_off73 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v320 : Index := Scalar.indexCast arg15
  let c464 : Index := 464#32
  ![v320.toNat, 464]
def k0_off74 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v329 : Index := Scalar.indexCast arg15
  let c480 : Index := 480#32
  ![v329.toNat, 480]
def k0_off75 (k0_t3 : Fin k0_t3_loop.trips) : Fin 2 → Nat :=
  let c0_i32_27 : BitVec 32 := 0#32
  let c1_i32_29 : BitVec 32 := 1#32
  let arg15 : BitVec 32 := Scf.iv c0_i32_27 c1_i32_29 k0_t3
  let v338 : Index := Scalar.indexCast arg15
  let c496 : Index := 496#32
  ![v338.toNat, 496]
@[reducible] def k0_t4_loop : Scf.Loop 32 :=
  let c1_i32_35 : BitVec 32 := 1#32
  let c126_i32 : BitVec 32 := 126#32
  let v31 : BitVec 32 := Scalar.addi c1_i32_35 c126_i32
  let c1_i32_36 : BitVec 32 := 1#32
  ⟨c1_i32_35, v31, c1_i32_36⟩
def k0_off76 (k0_t4 : Fin k0_t4_loop.trips) (c1_i32_69 : BitVec 32) : Fin 1 → Nat :=
  let c2_i32_68 : BitVec 32 := 2#32
  let c1_i32_35 : BitVec 32 := 1#32
  let c1_i32_36 : BitVec 32 := 1#32
  let arg15 : BitVec 32 := Scf.iv c1_i32_35 c1_i32_36 k0_t4
  let v54 : BitVec 32 := Scalar.muli c2_i32_68 arg15
  let v55 : BitVec 32 := Scalar.addi v54 c1_i32_69
  let c64_i32_70 : BitVec 32 := 64#32
  let v56 : BitVec 32 := Scalar.muli v55 c64_i32_70
  ![v56.toNat]
def k0_off77 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v3 : BitVec 32 := Scalar.muli v1 c2048_i32
  let c0_i32_76 : BitVec 32 := 0#32
  ![v3.toNat, 0]
@[reducible] def k0_t5_loop : Scf.Loop 32 :=
  let c0_i32_79 : BitVec 32 := 0#32
  let c8_i32_80 : BitVec 32 := 8#32
  let v63 : BitVec 32 := Scalar.addi c0_i32_79 c8_i32_80
  let c1_i32_81 : BitVec 32 := 1#32
  ⟨c0_i32_79, v63, c1_i32_81⟩
def k0_off78 (k0_t5 : Fin k0_t5_loop.trips) (c0_i32_105 : BitVec 32) : Fin 2 → Nat :=
  let c0_i32_79 : BitVec 32 := 0#32
  let c1_i32_81 : BitVec 32 := 1#32
  let arg16 : BitVec 32 := Scf.iv c0_i32_79 c1_i32_81 k0_t5
  let c8_i32_104 : BitVec 32 := 8#32
  let v82 : BitVec 32 := Scalar.muli arg16 c8_i32_104
  let v83 : BitVec 32 := Scalar.addi v82 c0_i32_105
  let v84 : Index := Scalar.indexCast v83
  let c0_106 : Index := 0#32
  ![v84.toNat, 0]
def k0_off79 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v87 : Index := Scalar.indexCast arg16
  let c0_107 : Index := 0#32
  ![v87.toNat, 0]
def k0_off80 (k0_t5 : Fin k0_t5_loop.trips) (c0_i32_109 : BitVec 32) : Fin 2 → Nat :=
  let c0_i32_79 : BitVec 32 := 0#32
  let c1_i32_81 : BitVec 32 := 1#32
  let arg16 : BitVec 32 := Scf.iv c0_i32_79 c1_i32_81 k0_t5
  let c8_i32_108 : BitVec 32 := 8#32
  let v91 : BitVec 32 := Scalar.muli arg16 c8_i32_108
  let v92 : BitVec 32 := Scalar.addi v91 c0_i32_109
  let v93 : Index := Scalar.indexCast v92
  let c16 : Index := 16#32
  ![v93.toNat, 16]
def k0_off81 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v96 : Index := Scalar.indexCast arg16
  let c16_110 : Index := 16#32
  ![v96.toNat, 16]
def k0_off82 (k0_t5 : Fin k0_t5_loop.trips) (c0_i32_112 : BitVec 32) : Fin 2 → Nat :=
  let c0_i32_79 : BitVec 32 := 0#32
  let c1_i32_81 : BitVec 32 := 1#32
  let arg16 : BitVec 32 := Scf.iv c0_i32_79 c1_i32_81 k0_t5
  let c8_i32_111 : BitVec 32 := 8#32
  let v100 : BitVec 32 := Scalar.muli arg16 c8_i32_111
  let v101 : BitVec 32 := Scalar.addi v100 c0_i32_112
  let v102 : Index := Scalar.indexCast v101
  let c32 : Index := 32#32
  ![v102.toNat, 32]
def k0_off83 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v105 : Index := Scalar.indexCast arg16
  let c32_113 : Index := 32#32
  ![v105.toNat, 32]
def k0_off84 (k0_t5 : Fin k0_t5_loop.trips) (c0_i32_115 : BitVec 32) : Fin 2 → Nat :=
  let c0_i32_79 : BitVec 32 := 0#32
  let c1_i32_81 : BitVec 32 := 1#32
  let arg16 : BitVec 32 := Scf.iv c0_i32_79 c1_i32_81 k0_t5
  let c8_i32_114 : BitVec 32 := 8#32
  let v109 : BitVec 32 := Scalar.muli arg16 c8_i32_114
  let v110 : BitVec 32 := Scalar.addi v109 c0_i32_115
  let v111 : Index := Scalar.indexCast v110
  let c48 : Index := 48#32
  ![v111.toNat, 48]
def k0_off85 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v114 : Index := Scalar.indexCast arg16
  let c48_116 : Index := 48#32
  ![v114.toNat, 48]
def k0_off86 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v123 : Index := Scalar.indexCast arg16
  let c64 : Index := 64#32
  ![v123.toNat, 64]
def k0_off87 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v132 : Index := Scalar.indexCast arg16
  let c80 : Index := 80#32
  ![v132.toNat, 80]
def k0_off88 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v141 : Index := Scalar.indexCast arg16
  let c96 : Index := 96#32
  ![v141.toNat, 96]
def k0_off89 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v150 : Index := Scalar.indexCast arg16
  let c112 : Index := 112#32
  ![v150.toNat, 112]
def k0_off90 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v159 : Index := Scalar.indexCast arg16
  let c128 : Index := 128#32
  ![v159.toNat, 128]
def k0_off91 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v168 : Index := Scalar.indexCast arg16
  let c144 : Index := 144#32
  ![v168.toNat, 144]
def k0_off92 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v177 : Index := Scalar.indexCast arg16
  let c160 : Index := 160#32
  ![v177.toNat, 160]
def k0_off93 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v186 : Index := Scalar.indexCast arg16
  let c176 : Index := 176#32
  ![v186.toNat, 176]
def k0_off94 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v195 : Index := Scalar.indexCast arg16
  let c192 : Index := 192#32
  ![v195.toNat, 192]
def k0_off95 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v204 : Index := Scalar.indexCast arg16
  let c208 : Index := 208#32
  ![v204.toNat, 208]
def k0_off96 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v213 : Index := Scalar.indexCast arg16
  let c224 : Index := 224#32
  ![v213.toNat, 224]
def k0_off97 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v222 : Index := Scalar.indexCast arg16
  let c240 : Index := 240#32
  ![v222.toNat, 240]
def k0_off98 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v231 : Index := Scalar.indexCast arg16
  let c256 : Index := 256#32
  ![v231.toNat, 256]
def k0_off99 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v240 : Index := Scalar.indexCast arg16
  let c272 : Index := 272#32
  ![v240.toNat, 272]
def k0_off100 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v249 : Index := Scalar.indexCast arg16
  let c288 : Index := 288#32
  ![v249.toNat, 288]
def k0_off101 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v258 : Index := Scalar.indexCast arg16
  let c304 : Index := 304#32
  ![v258.toNat, 304]
def k0_off102 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v267 : Index := Scalar.indexCast arg16
  let c320 : Index := 320#32
  ![v267.toNat, 320]
def k0_off103 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v276 : Index := Scalar.indexCast arg16
  let c336 : Index := 336#32
  ![v276.toNat, 336]
def k0_off104 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v285 : Index := Scalar.indexCast arg16
  let c352 : Index := 352#32
  ![v285.toNat, 352]
def k0_off105 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v294 : Index := Scalar.indexCast arg16
  let c368 : Index := 368#32
  ![v294.toNat, 368]
def k0_off106 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v303 : Index := Scalar.indexCast arg16
  let c384 : Index := 384#32
  ![v303.toNat, 384]
def k0_off107 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v312 : Index := Scalar.indexCast arg16
  let c400 : Index := 400#32
  ![v312.toNat, 400]
def k0_off108 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v321 : Index := Scalar.indexCast arg16
  let c416 : Index := 416#32
  ![v321.toNat, 416]
def k0_off109 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v330 : Index := Scalar.indexCast arg16
  let c432 : Index := 432#32
  ![v330.toNat, 432]
def k0_off110 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v339 : Index := Scalar.indexCast arg16
  let c448 : Index := 448#32
  ![v339.toNat, 448]
def k0_off111 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v348 : Index := Scalar.indexCast arg16
  let c464 : Index := 464#32
  ![v348.toNat, 464]
def k0_off112 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v357 : Index := Scalar.indexCast arg16
  let c480 : Index := 480#32
  ![v357.toNat, 480]
def k0_off113 (k0_t5 : Fin k0_t5_loop.trips) : Fin 2 → Nat :=
  let c0_i32_79 : BitVec 32 := 0#32
  let c1_i32_81 : BitVec 32 := 1#32
  let arg16 : BitVec 32 := Scf.iv c0_i32_79 c1_i32_81 k0_t5
  let v366 : Index := Scalar.indexCast arg16
  let c496 : Index := 496#32
  ![v366.toNat, 496]
def k0_off114 (i : grid0.Coords) (k0_t4 : Fin k0_t4_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v3 : BitVec 32 := Scalar.muli v1 c2048_i32
  let c2_i32_68 : BitVec 32 := 2#32
  let c1_i32_35 : BitVec 32 := 1#32
  let c1_i32_36 : BitVec 32 := 1#32
  let arg15 : BitVec 32 := Scf.iv c1_i32_35 c1_i32_36 k0_t4
  let v54 : BitVec 32 := Scalar.muli c2_i32_68 arg15
  let c8_i32_83 : BitVec 32 := 8#32
  let v64 : BitVec 32 := Scalar.muli v54 c8_i32_83
  let v65 : BitVec 32 := Scalar.addi v3 v64
  let c0_i32_84 : BitVec 32 := 0#32
  ![v65.toNat, 0]
@[reducible] def k0_t6_loop : Scf.Loop 32 :=
  let c0_i32_96 : BitVec 32 := 0#32
  let c8_i32_97 : BitVec 32 := 8#32
  let v76 : BitVec 32 := Scalar.addi c0_i32_96 c8_i32_97
  let c1_i32_98 : BitVec 32 := 1#32
  ⟨c0_i32_96, v76, c1_i32_98⟩
def k0_off115 (k0_t6 : Fin k0_t6_loop.trips) (c0_i32_105 : BitVec 32) : Fin 2 → Nat :=
  let c0_i32_96 : BitVec 32 := 0#32
  let c1_i32_98 : BitVec 32 := 1#32
  let arg16 : BitVec 32 := Scf.iv c0_i32_96 c1_i32_98 k0_t6
  let c8_i32_104 : BitVec 32 := 8#32
  let v82 : BitVec 32 := Scalar.muli arg16 c8_i32_104
  let v83 : BitVec 32 := Scalar.addi v82 c0_i32_105
  let v84 : Index := Scalar.indexCast v83
  let c0_106 : Index := 0#32
  ![v84.toNat, 0]
def k0_off116 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v87 : Index := Scalar.indexCast arg16
  let c0_107 : Index := 0#32
  ![v87.toNat, 0]
def k0_off117 (k0_t6 : Fin k0_t6_loop.trips) (c0_i32_109 : BitVec 32) : Fin 2 → Nat :=
  let c0_i32_96 : BitVec 32 := 0#32
  let c1_i32_98 : BitVec 32 := 1#32
  let arg16 : BitVec 32 := Scf.iv c0_i32_96 c1_i32_98 k0_t6
  let c8_i32_108 : BitVec 32 := 8#32
  let v91 : BitVec 32 := Scalar.muli arg16 c8_i32_108
  let v92 : BitVec 32 := Scalar.addi v91 c0_i32_109
  let v93 : Index := Scalar.indexCast v92
  let c16 : Index := 16#32
  ![v93.toNat, 16]
def k0_off118 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v96 : Index := Scalar.indexCast arg16
  let c16_110 : Index := 16#32
  ![v96.toNat, 16]
def k0_off119 (k0_t6 : Fin k0_t6_loop.trips) (c0_i32_112 : BitVec 32) : Fin 2 → Nat :=
  let c0_i32_96 : BitVec 32 := 0#32
  let c1_i32_98 : BitVec 32 := 1#32
  let arg16 : BitVec 32 := Scf.iv c0_i32_96 c1_i32_98 k0_t6
  let c8_i32_111 : BitVec 32 := 8#32
  let v100 : BitVec 32 := Scalar.muli arg16 c8_i32_111
  let v101 : BitVec 32 := Scalar.addi v100 c0_i32_112
  let v102 : Index := Scalar.indexCast v101
  let c32 : Index := 32#32
  ![v102.toNat, 32]
def k0_off120 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v105 : Index := Scalar.indexCast arg16
  let c32_113 : Index := 32#32
  ![v105.toNat, 32]
def k0_off121 (k0_t6 : Fin k0_t6_loop.trips) (c0_i32_115 : BitVec 32) : Fin 2 → Nat :=
  let c0_i32_96 : BitVec 32 := 0#32
  let c1_i32_98 : BitVec 32 := 1#32
  let arg16 : BitVec 32 := Scf.iv c0_i32_96 c1_i32_98 k0_t6
  let c8_i32_114 : BitVec 32 := 8#32
  let v109 : BitVec 32 := Scalar.muli arg16 c8_i32_114
  let v110 : BitVec 32 := Scalar.addi v109 c0_i32_115
  let v111 : Index := Scalar.indexCast v110
  let c48 : Index := 48#32
  ![v111.toNat, 48]
def k0_off122 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v114 : Index := Scalar.indexCast arg16
  let c48_116 : Index := 48#32
  ![v114.toNat, 48]
def k0_off123 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v123 : Index := Scalar.indexCast arg16
  let c64 : Index := 64#32
  ![v123.toNat, 64]
def k0_off124 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v132 : Index := Scalar.indexCast arg16
  let c80 : Index := 80#32
  ![v132.toNat, 80]
def k0_off125 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v141 : Index := Scalar.indexCast arg16
  let c96 : Index := 96#32
  ![v141.toNat, 96]
def k0_off126 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v150 : Index := Scalar.indexCast arg16
  let c112 : Index := 112#32
  ![v150.toNat, 112]
def k0_off127 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v159 : Index := Scalar.indexCast arg16
  let c128 : Index := 128#32
  ![v159.toNat, 128]
def k0_off128 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v168 : Index := Scalar.indexCast arg16
  let c144 : Index := 144#32
  ![v168.toNat, 144]
def k0_off129 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v177 : Index := Scalar.indexCast arg16
  let c160 : Index := 160#32
  ![v177.toNat, 160]
def k0_off130 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v186 : Index := Scalar.indexCast arg16
  let c176 : Index := 176#32
  ![v186.toNat, 176]
def k0_off131 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v195 : Index := Scalar.indexCast arg16
  let c192 : Index := 192#32
  ![v195.toNat, 192]
def k0_off132 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v204 : Index := Scalar.indexCast arg16
  let c208 : Index := 208#32
  ![v204.toNat, 208]
def k0_off133 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v213 : Index := Scalar.indexCast arg16
  let c224 : Index := 224#32
  ![v213.toNat, 224]
def k0_off134 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v222 : Index := Scalar.indexCast arg16
  let c240 : Index := 240#32
  ![v222.toNat, 240]
def k0_off135 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v231 : Index := Scalar.indexCast arg16
  let c256 : Index := 256#32
  ![v231.toNat, 256]
def k0_off136 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v240 : Index := Scalar.indexCast arg16
  let c272 : Index := 272#32
  ![v240.toNat, 272]
def k0_off137 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v249 : Index := Scalar.indexCast arg16
  let c288 : Index := 288#32
  ![v249.toNat, 288]
def k0_off138 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v258 : Index := Scalar.indexCast arg16
  let c304 : Index := 304#32
  ![v258.toNat, 304]
def k0_off139 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v267 : Index := Scalar.indexCast arg16
  let c320 : Index := 320#32
  ![v267.toNat, 320]
def k0_off140 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v276 : Index := Scalar.indexCast arg16
  let c336 : Index := 336#32
  ![v276.toNat, 336]
def k0_off141 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v285 : Index := Scalar.indexCast arg16
  let c352 : Index := 352#32
  ![v285.toNat, 352]
def k0_off142 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v294 : Index := Scalar.indexCast arg16
  let c368 : Index := 368#32
  ![v294.toNat, 368]
def k0_off143 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v303 : Index := Scalar.indexCast arg16
  let c384 : Index := 384#32
  ![v303.toNat, 384]
def k0_off144 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v312 : Index := Scalar.indexCast arg16
  let c400 : Index := 400#32
  ![v312.toNat, 400]
def k0_off145 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v321 : Index := Scalar.indexCast arg16
  let c416 : Index := 416#32
  ![v321.toNat, 416]
def k0_off146 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v330 : Index := Scalar.indexCast arg16
  let c432 : Index := 432#32
  ![v330.toNat, 432]
def k0_off147 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v339 : Index := Scalar.indexCast arg16
  let c448 : Index := 448#32
  ![v339.toNat, 448]
def k0_off148 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v348 : Index := Scalar.indexCast arg16
  let c464 : Index := 464#32
  ![v348.toNat, 464]
def k0_off149 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v357 : Index := Scalar.indexCast arg16
  let c480 : Index := 480#32
  ![v357.toNat, 480]
def k0_off150 (k0_t6 : Fin k0_t6_loop.trips) : Fin 2 → Nat :=
  let c0_i32_96 : BitVec 32 := 0#32
  let c1_i32_98 : BitVec 32 := 1#32
  let arg16 : BitVec 32 := Scf.iv c0_i32_96 c1_i32_98 k0_t6
  let v366 : Index := Scalar.indexCast arg16
  let c496 : Index := 496#32
  ![v366.toNat, 496]
def k0_off151 (i : grid0.Coords) (k0_t4 : Fin k0_t4_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v3 : BitVec 32 := Scalar.muli v1 c2048_i32
  let c2_i32_68 : BitVec 32 := 2#32
  let c1_i32_35 : BitVec 32 := 1#32
  let c1_i32_36 : BitVec 32 := 1#32
  let arg15 : BitVec 32 := Scf.iv c1_i32_35 c1_i32_36 k0_t4
  let v54 : BitVec 32 := Scalar.muli c2_i32_68 arg15
  let c1_i32_100 : BitVec 32 := 1#32
  let v77 : BitVec 32 := Scalar.addi v54 c1_i32_100
  let c8_i32_101 : BitVec 32 := 8#32
  let v78 : BitVec 32 := Scalar.muli v77 c8_i32_101
  let v79 : BitVec 32 := Scalar.addi v3 v78
  let c0_i32_102 : BitVec 32 := 0#32
  ![v79.toNat, 0]
def k0_off152 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v3 : BitVec 32 := Scalar.muli v1 c2048_i32
  let c0_i32_43 : BitVec 32 := 0#32
  ![v3.toNat, 0]
@[reducible] def k0_t7_loop : Scf.Loop 32 :=
  let c0_i32_46 : BitVec 32 := 0#32
  let c8_i32_47 : BitVec 32 := 8#32
  let v38 : BitVec 32 := Scalar.addi c0_i32_46 c8_i32_47
  let c1_i32_48 : BitVec 32 := 1#32
  ⟨c0_i32_46, v38, c1_i32_48⟩
def k0_off153 (k0_t7 : Fin k0_t7_loop.trips) (c0_i32_69 : BitVec 32) : Fin 2 → Nat :=
  let c0_i32_46 : BitVec 32 := 0#32
  let c1_i32_48 : BitVec 32 := 1#32
  let arg15 : BitVec 32 := Scf.iv c0_i32_46 c1_i32_48 k0_t7
  let c8_i32_68 : BitVec 32 := 8#32
  let v54 : BitVec 32 := Scalar.muli arg15 c8_i32_68
  let v55 : BitVec 32 := Scalar.addi v54 c0_i32_69
  let v56 : Index := Scalar.indexCast v55
  let c0_70 : Index := 0#32
  ![v56.toNat, 0]
def k0_off154 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v59 : Index := Scalar.indexCast arg15
  let c0_71 : Index := 0#32
  ![v59.toNat, 0]
def k0_off155 (k0_t7 : Fin k0_t7_loop.trips) (c0_i32_73 : BitVec 32) : Fin 2 → Nat :=
  let c0_i32_46 : BitVec 32 := 0#32
  let c1_i32_48 : BitVec 32 := 1#32
  let arg15 : BitVec 32 := Scf.iv c0_i32_46 c1_i32_48 k0_t7
  let c8_i32_72 : BitVec 32 := 8#32
  let v63 : BitVec 32 := Scalar.muli arg15 c8_i32_72
  let v64 : BitVec 32 := Scalar.addi v63 c0_i32_73
  let v65 : Index := Scalar.indexCast v64
  let c16 : Index := 16#32
  ![v65.toNat, 16]
def k0_off156 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v68 : Index := Scalar.indexCast arg15
  let c16_74 : Index := 16#32
  ![v68.toNat, 16]
def k0_off157 (k0_t7 : Fin k0_t7_loop.trips) (c0_i32_76 : BitVec 32) : Fin 2 → Nat :=
  let c0_i32_46 : BitVec 32 := 0#32
  let c1_i32_48 : BitVec 32 := 1#32
  let arg15 : BitVec 32 := Scf.iv c0_i32_46 c1_i32_48 k0_t7
  let c8_i32_75 : BitVec 32 := 8#32
  let v72 : BitVec 32 := Scalar.muli arg15 c8_i32_75
  let v73 : BitVec 32 := Scalar.addi v72 c0_i32_76
  let v74 : Index := Scalar.indexCast v73
  let c32 : Index := 32#32
  ![v74.toNat, 32]
def k0_off158 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v77 : Index := Scalar.indexCast arg15
  let c32_77 : Index := 32#32
  ![v77.toNat, 32]
def k0_off159 (k0_t7 : Fin k0_t7_loop.trips) (c0_i32_79 : BitVec 32) : Fin 2 → Nat :=
  let c0_i32_46 : BitVec 32 := 0#32
  let c1_i32_48 : BitVec 32 := 1#32
  let arg15 : BitVec 32 := Scf.iv c0_i32_46 c1_i32_48 k0_t7
  let c8_i32_78 : BitVec 32 := 8#32
  let v81 : BitVec 32 := Scalar.muli arg15 c8_i32_78
  let v82 : BitVec 32 := Scalar.addi v81 c0_i32_79
  let v83 : Index := Scalar.indexCast v82
  let c48 : Index := 48#32
  ![v83.toNat, 48]
def k0_off160 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v86 : Index := Scalar.indexCast arg15
  let c48_80 : Index := 48#32
  ![v86.toNat, 48]
def k0_off161 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v95 : Index := Scalar.indexCast arg15
  let c64 : Index := 64#32
  ![v95.toNat, 64]
def k0_off162 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v104 : Index := Scalar.indexCast arg15
  let c80 : Index := 80#32
  ![v104.toNat, 80]
def k0_off163 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v113 : Index := Scalar.indexCast arg15
  let c96 : Index := 96#32
  ![v113.toNat, 96]
def k0_off164 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v122 : Index := Scalar.indexCast arg15
  let c112 : Index := 112#32
  ![v122.toNat, 112]
def k0_off165 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v131 : Index := Scalar.indexCast arg15
  let c128 : Index := 128#32
  ![v131.toNat, 128]
def k0_off166 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v140 : Index := Scalar.indexCast arg15
  let c144 : Index := 144#32
  ![v140.toNat, 144]
def k0_off167 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v149 : Index := Scalar.indexCast arg15
  let c160 : Index := 160#32
  ![v149.toNat, 160]
def k0_off168 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v158 : Index := Scalar.indexCast arg15
  let c176 : Index := 176#32
  ![v158.toNat, 176]
def k0_off169 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v167 : Index := Scalar.indexCast arg15
  let c192 : Index := 192#32
  ![v167.toNat, 192]
def k0_off170 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v176 : Index := Scalar.indexCast arg15
  let c208 : Index := 208#32
  ![v176.toNat, 208]
def k0_off171 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v185 : Index := Scalar.indexCast arg15
  let c224 : Index := 224#32
  ![v185.toNat, 224]
def k0_off172 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v194 : Index := Scalar.indexCast arg15
  let c240 : Index := 240#32
  ![v194.toNat, 240]
def k0_off173 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v203 : Index := Scalar.indexCast arg15
  let c256 : Index := 256#32
  ![v203.toNat, 256]
def k0_off174 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v212 : Index := Scalar.indexCast arg15
  let c272 : Index := 272#32
  ![v212.toNat, 272]
def k0_off175 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v221 : Index := Scalar.indexCast arg15
  let c288 : Index := 288#32
  ![v221.toNat, 288]
def k0_off176 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v230 : Index := Scalar.indexCast arg15
  let c304 : Index := 304#32
  ![v230.toNat, 304]
def k0_off177 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v239 : Index := Scalar.indexCast arg15
  let c320 : Index := 320#32
  ![v239.toNat, 320]
def k0_off178 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v248 : Index := Scalar.indexCast arg15
  let c336 : Index := 336#32
  ![v248.toNat, 336]
def k0_off179 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v257 : Index := Scalar.indexCast arg15
  let c352 : Index := 352#32
  ![v257.toNat, 352]
def k0_off180 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v266 : Index := Scalar.indexCast arg15
  let c368 : Index := 368#32
  ![v266.toNat, 368]
def k0_off181 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v275 : Index := Scalar.indexCast arg15
  let c384 : Index := 384#32
  ![v275.toNat, 384]
def k0_off182 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v284 : Index := Scalar.indexCast arg15
  let c400 : Index := 400#32
  ![v284.toNat, 400]
def k0_off183 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v293 : Index := Scalar.indexCast arg15
  let c416 : Index := 416#32
  ![v293.toNat, 416]
def k0_off184 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v302 : Index := Scalar.indexCast arg15
  let c432 : Index := 432#32
  ![v302.toNat, 432]
def k0_off185 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v311 : Index := Scalar.indexCast arg15
  let c448 : Index := 448#32
  ![v311.toNat, 448]
def k0_off186 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v320 : Index := Scalar.indexCast arg15
  let c464 : Index := 464#32
  ![v320.toNat, 464]
def k0_off187 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v329 : Index := Scalar.indexCast arg15
  let c480 : Index := 480#32
  ![v329.toNat, 480]
def k0_off188 (k0_t7 : Fin k0_t7_loop.trips) : Fin 2 → Nat :=
  let c0_i32_46 : BitVec 32 := 0#32
  let c1_i32_48 : BitVec 32 := 1#32
  let arg15 : BitVec 32 := Scf.iv c0_i32_46 c1_i32_48 k0_t7
  let v338 : Index := Scalar.indexCast arg15
  let c496 : Index := 496#32
  ![v338.toNat, 496]
@[reducible] def k0_t8_loop : Scf.Loop 32 :=
  let c0_i32_58 : BitVec 32 := 0#32
  let c8_i32_59 : BitVec 32 := 8#32
  let v46 : BitVec 32 := Scalar.addi c0_i32_58 c8_i32_59
  let c1_i32_60 : BitVec 32 := 1#32
  ⟨c0_i32_58, v46, c1_i32_60⟩
def k0_off189 (k0_t8 : Fin k0_t8_loop.trips) (c0_i32_69 : BitVec 32) : Fin 2 → Nat :=
  let c0_i32_58 : BitVec 32 := 0#32
  let c1_i32_60 : BitVec 32 := 1#32
  let arg15 : BitVec 32 := Scf.iv c0_i32_58 c1_i32_60 k0_t8
  let c8_i32_68 : BitVec 32 := 8#32
  let v54 : BitVec 32 := Scalar.muli arg15 c8_i32_68
  let v55 : BitVec 32 := Scalar.addi v54 c0_i32_69
  let v56 : Index := Scalar.indexCast v55
  let c0_70 : Index := 0#32
  ![v56.toNat, 0]
def k0_off190 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v59 : Index := Scalar.indexCast arg15
  let c0_71 : Index := 0#32
  ![v59.toNat, 0]
def k0_off191 (k0_t8 : Fin k0_t8_loop.trips) (c0_i32_73 : BitVec 32) : Fin 2 → Nat :=
  let c0_i32_58 : BitVec 32 := 0#32
  let c1_i32_60 : BitVec 32 := 1#32
  let arg15 : BitVec 32 := Scf.iv c0_i32_58 c1_i32_60 k0_t8
  let c8_i32_72 : BitVec 32 := 8#32
  let v63 : BitVec 32 := Scalar.muli arg15 c8_i32_72
  let v64 : BitVec 32 := Scalar.addi v63 c0_i32_73
  let v65 : Index := Scalar.indexCast v64
  let c16 : Index := 16#32
  ![v65.toNat, 16]
def k0_off192 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v68 : Index := Scalar.indexCast arg15
  let c16_74 : Index := 16#32
  ![v68.toNat, 16]
def k0_off193 (k0_t8 : Fin k0_t8_loop.trips) (c0_i32_76 : BitVec 32) : Fin 2 → Nat :=
  let c0_i32_58 : BitVec 32 := 0#32
  let c1_i32_60 : BitVec 32 := 1#32
  let arg15 : BitVec 32 := Scf.iv c0_i32_58 c1_i32_60 k0_t8
  let c8_i32_75 : BitVec 32 := 8#32
  let v72 : BitVec 32 := Scalar.muli arg15 c8_i32_75
  let v73 : BitVec 32 := Scalar.addi v72 c0_i32_76
  let v74 : Index := Scalar.indexCast v73
  let c32 : Index := 32#32
  ![v74.toNat, 32]
def k0_off194 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v77 : Index := Scalar.indexCast arg15
  let c32_77 : Index := 32#32
  ![v77.toNat, 32]
def k0_off195 (k0_t8 : Fin k0_t8_loop.trips) (c0_i32_79 : BitVec 32) : Fin 2 → Nat :=
  let c0_i32_58 : BitVec 32 := 0#32
  let c1_i32_60 : BitVec 32 := 1#32
  let arg15 : BitVec 32 := Scf.iv c0_i32_58 c1_i32_60 k0_t8
  let c8_i32_78 : BitVec 32 := 8#32
  let v81 : BitVec 32 := Scalar.muli arg15 c8_i32_78
  let v82 : BitVec 32 := Scalar.addi v81 c0_i32_79
  let v83 : Index := Scalar.indexCast v82
  let c48 : Index := 48#32
  ![v83.toNat, 48]
def k0_off196 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v86 : Index := Scalar.indexCast arg15
  let c48_80 : Index := 48#32
  ![v86.toNat, 48]
def k0_off197 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v95 : Index := Scalar.indexCast arg15
  let c64 : Index := 64#32
  ![v95.toNat, 64]
def k0_off198 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v104 : Index := Scalar.indexCast arg15
  let c80 : Index := 80#32
  ![v104.toNat, 80]
def k0_off199 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v113 : Index := Scalar.indexCast arg15
  let c96 : Index := 96#32
  ![v113.toNat, 96]
def k0_off200 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v122 : Index := Scalar.indexCast arg15
  let c112 : Index := 112#32
  ![v122.toNat, 112]
def k0_off201 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v131 : Index := Scalar.indexCast arg15
  let c128 : Index := 128#32
  ![v131.toNat, 128]
def k0_off202 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v140 : Index := Scalar.indexCast arg15
  let c144 : Index := 144#32
  ![v140.toNat, 144]
def k0_off203 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v149 : Index := Scalar.indexCast arg15
  let c160 : Index := 160#32
  ![v149.toNat, 160]
def k0_off204 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v158 : Index := Scalar.indexCast arg15
  let c176 : Index := 176#32
  ![v158.toNat, 176]
def k0_off205 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v167 : Index := Scalar.indexCast arg15
  let c192 : Index := 192#32
  ![v167.toNat, 192]
def k0_off206 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v176 : Index := Scalar.indexCast arg15
  let c208 : Index := 208#32
  ![v176.toNat, 208]
def k0_off207 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v185 : Index := Scalar.indexCast arg15
  let c224 : Index := 224#32
  ![v185.toNat, 224]
def k0_off208 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v194 : Index := Scalar.indexCast arg15
  let c240 : Index := 240#32
  ![v194.toNat, 240]
def k0_off209 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v203 : Index := Scalar.indexCast arg15
  let c256 : Index := 256#32
  ![v203.toNat, 256]
def k0_off210 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v212 : Index := Scalar.indexCast arg15
  let c272 : Index := 272#32
  ![v212.toNat, 272]
def k0_off211 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v221 : Index := Scalar.indexCast arg15
  let c288 : Index := 288#32
  ![v221.toNat, 288]
def k0_off212 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v230 : Index := Scalar.indexCast arg15
  let c304 : Index := 304#32
  ![v230.toNat, 304]
def k0_off213 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v239 : Index := Scalar.indexCast arg15
  let c320 : Index := 320#32
  ![v239.toNat, 320]
def k0_off214 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v248 : Index := Scalar.indexCast arg15
  let c336 : Index := 336#32
  ![v248.toNat, 336]
def k0_off215 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v257 : Index := Scalar.indexCast arg15
  let c352 : Index := 352#32
  ![v257.toNat, 352]
def k0_off216 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v266 : Index := Scalar.indexCast arg15
  let c368 : Index := 368#32
  ![v266.toNat, 368]
def k0_off217 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v275 : Index := Scalar.indexCast arg15
  let c384 : Index := 384#32
  ![v275.toNat, 384]
def k0_off218 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v284 : Index := Scalar.indexCast arg15
  let c400 : Index := 400#32
  ![v284.toNat, 400]
def k0_off219 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v293 : Index := Scalar.indexCast arg15
  let c416 : Index := 416#32
  ![v293.toNat, 416]
def k0_off220 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v302 : Index := Scalar.indexCast arg15
  let c432 : Index := 432#32
  ![v302.toNat, 432]
def k0_off221 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v311 : Index := Scalar.indexCast arg15
  let c448 : Index := 448#32
  ![v311.toNat, 448]
def k0_off222 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v320 : Index := Scalar.indexCast arg15
  let c464 : Index := 464#32
  ![v320.toNat, 464]
def k0_off223 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v329 : Index := Scalar.indexCast arg15
  let c480 : Index := 480#32
  ![v329.toNat, 480]
def k0_off224 (k0_t8 : Fin k0_t8_loop.trips) : Fin 2 → Nat :=
  let c0_i32_58 : BitVec 32 := 0#32
  let c1_i32_60 : BitVec 32 := 1#32
  let arg15 : BitVec 32 := Scf.iv c0_i32_58 c1_i32_60 k0_t8
  let v338 : Index := Scalar.indexCast arg15
  let c496 : Index := 496#32
  ![v338.toNat, 496]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S65536x8 : Shape := ⟨2, ![65536, 8]⟩
abbrev S8x1024x64 : Shape := ⟨3, ![8, 1024, 64]⟩
abbrev S65536x1 : Shape := ⟨2, ![65536, 1]⟩
abbrev S65536 : Shape := ⟨1, ![65536]⟩
abbrev S1x1024x64 : Shape := ⟨3, ![1, 1024, 64]⟩
abbrev S1024x64 : Shape := ⟨2, ![1024, 64]⟩
abbrev S_ : Shape := ⟨0, ![]⟩
abbrev S65536x64 : Shape := ⟨2, ![65536, 64]⟩
abbrev S65536x512 : Shape := ⟨2, ![65536, 512]⟩

abbrev nBuf : Space → Nat
  | .hbm => 107
  | .vmem => 0
  | .smem => 0
  | _ => 0

abbrev bufTy : (tb : Table) → Fin (tcTables nBuf tb) → BufTy
  | .hbm, ⟨0, _⟩ => ⟨S65536x8, .i32⟩
  | .hbm, ⟨1, _⟩ => ⟨S8x1024x64, .f32⟩
  | .hbm, ⟨2, _⟩ => ⟨S65536x1, .i32⟩
  | .hbm, ⟨3, _⟩ => ⟨S65536, .i32⟩
  | .hbm, ⟨4, _⟩ => ⟨S1x1024x64, .f32⟩
  | .hbm, ⟨5, _⟩ => ⟨S1024x64, .f32⟩
  | .hbm, ⟨6, _⟩ => ⟨S_, .i32⟩
  | .hbm, ⟨7, _⟩ => ⟨S65536, .i32⟩
  | .hbm, ⟨8, _⟩ => ⟨S65536, .i1⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S65536x1, .i32⟩
  | .hbm, ⟨14, _⟩ => ⟨S65536x64, .f32⟩
  | .hbm, ⟨15, _⟩ => ⟨S65536x1, .i32⟩
  | .hbm, ⟨16, _⟩ => ⟨S65536, .i32⟩
  | .hbm, ⟨17, _⟩ => ⟨S1x1024x64, .f32⟩
  | .hbm, ⟨18, _⟩ => ⟨S1024x64, .f32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i32⟩
  | .hbm, ⟨25, _⟩ => ⟨S65536, .i32⟩
  | .hbm, ⟨26, _⟩ => ⟨S65536x1, .i32⟩
  | .hbm, ⟨27, _⟩ => ⟨S65536x64, .f32⟩
  | .hbm, ⟨28, _⟩ => ⟨S65536x1, .i32⟩
  | .hbm, ⟨29, _⟩ => ⟨S65536, .i32⟩
  | .hbm, ⟨30, _⟩ => ⟨S1x1024x64, .f32⟩
  | .hbm, ⟨31, _⟩ => ⟨S1024x64, .f32⟩
  | .hbm, ⟨32, _⟩ => ⟨S_, .i32⟩
  | .hbm, ⟨33, _⟩ => ⟨S65536, .i32⟩
  | .hbm, ⟨34, _⟩ => ⟨S65536, .i1⟩
  | .hbm, ⟨35, _⟩ => ⟨S_, .i32⟩
  | .hbm, ⟨36, _⟩ => ⟨S65536, .i32⟩
  | .hbm, ⟨37, _⟩ => ⟨S65536, .i32⟩
  | .hbm, ⟨38, _⟩ => ⟨S65536, .i32⟩
  | .hbm, ⟨39, _⟩ => ⟨S65536x1, .i32⟩
  | .hbm, ⟨40, _⟩ => ⟨S65536x64, .f32⟩
  | .hbm, ⟨41, _⟩ => ⟨S65536x1, .i32⟩
  | .hbm, ⟨42, _⟩ => ⟨S65536, .i32⟩
  | .hbm, ⟨43, _⟩ => ⟨S1x1024x64, .f32⟩
  | .hbm, ⟨44, _⟩ => ⟨S1024x64, .f32⟩
  | .hbm, ⟨45, _⟩ => ⟨S_, .i32⟩
  | .hbm, ⟨46, _⟩ => ⟨S65536, .i32⟩
  | .hbm, ⟨47, _⟩ => ⟨S65536, .i1⟩
  | .hbm, ⟨48, _⟩ => ⟨S_, .i32⟩
  | .hbm, ⟨49, _⟩ => ⟨S65536, .i32⟩
  | .hbm, ⟨50, _⟩ => ⟨S65536, .i32⟩
  | .hbm, ⟨51, _⟩ => ⟨S65536, .i32⟩
  | .hbm, ⟨52, _⟩ => ⟨S65536x1, .i32⟩
  | .hbm, ⟨53, _⟩ => ⟨S65536x64, .f32⟩
  | .hbm, ⟨54, _⟩ => ⟨S65536x1, .i32⟩
  | .hbm, ⟨55, _⟩ => ⟨S65536, .i32⟩
  | .hbm, ⟨56, _⟩ => ⟨S1x1024x64, .f32⟩
  | .hbm, ⟨57, _⟩ => ⟨S1024x64, .f32⟩
  | .hbm, ⟨58, _⟩ => ⟨S_, .i32⟩
  | .hbm, ⟨59, _⟩ => ⟨S65536, .i32⟩
  | .hbm, ⟨60, _⟩ => ⟨S65536, .i1⟩
  | .hbm, ⟨61, _⟩ => ⟨S_, .i32⟩
  | .hbm, ⟨62, _⟩ => ⟨S65536, .i32⟩
  | .hbm, ⟨63, _⟩ => ⟨S65536, .i32⟩
  | .hbm, ⟨64, _⟩ => ⟨S65536, .i32⟩
  | .hbm, ⟨65, _⟩ => ⟨S65536x1, .i32⟩
  | .hbm, ⟨66, _⟩ => ⟨S65536x64, .f32⟩
  | .hbm, ⟨67, _⟩ => ⟨S65536x1, .i32⟩
  | .hbm, ⟨68, _⟩ => ⟨S65536, .i32⟩
  | .hbm, ⟨69, _⟩ => ⟨S1x1024x64, .f32⟩
  | .hbm, ⟨70, _⟩ => ⟨S1024x64, .f32⟩
  | .hbm, ⟨71, _⟩ => ⟨S_, .i32⟩
  | .hbm, ⟨72, _⟩ => ⟨S65536, .i32⟩
  | .hbm, ⟨73, _⟩ => ⟨S65536, .i1⟩
  | .hbm, ⟨74, _⟩ => ⟨S_, .i32⟩
  | .hbm, ⟨75, _⟩ => ⟨S65536, .i32⟩
  | .hbm, ⟨76, _⟩ => ⟨S65536, .i32⟩
  | .hbm, ⟨77, _⟩ => ⟨S65536, .i32⟩
  | .hbm, ⟨78, _⟩ => ⟨S65536x1, .i32⟩
  | .hbm, ⟨79, _⟩ => ⟨S65536x64, .f32⟩
  | .hbm, ⟨80, _⟩ => ⟨S65536x1, .i32⟩
  | .hbm, ⟨81, _⟩ => ⟨S65536, .i32⟩
  | .hbm, ⟨82, _⟩ => ⟨S1x1024x64, .f32⟩
  | .hbm, ⟨83, _⟩ => ⟨S1024x64, .f32⟩
  | .hbm, ⟨84, _⟩ => ⟨S_, .i32⟩
  | .hbm, ⟨85, _⟩ => ⟨S65536, .i32⟩
  | .hbm, ⟨86, _⟩ => ⟨S65536, .i1⟩
  | .hbm, ⟨87, _⟩ => ⟨S_, .i32⟩
  | .hbm, ⟨88, _⟩ => ⟨S65536, .i32⟩
  | .hbm, ⟨89, _⟩ => ⟨S65536, .i32⟩
  | .hbm, ⟨90, _⟩ => ⟨S65536, .i32⟩
  | .hbm, ⟨91, _⟩ => ⟨S65536x1, .i32⟩
  | .hbm, ⟨92, _⟩ => ⟨S65536x64, .f32⟩
  | .hbm, ⟨93, _⟩ => ⟨S65536x1, .i32⟩
  | .hbm, ⟨94, _⟩ => ⟨S65536, .i32⟩
  | .hbm, ⟨95, _⟩ => ⟨S1x1024x64, .f32⟩
  | .hbm, ⟨96, _⟩ => ⟨S1024x64, .f32⟩
  | .hbm, ⟨97, _⟩ => ⟨S_, .i32⟩
  | .hbm, ⟨98, _⟩ => ⟨S65536, .i32⟩
  | .hbm, ⟨99, _⟩ => ⟨S65536, .i1⟩
  | .hbm, ⟨100, _⟩ => ⟨S_, .i32⟩
  | .hbm, ⟨101, _⟩ => ⟨S65536, .i32⟩
  | .hbm, ⟨102, _⟩ => ⟨S65536, .i32⟩
  | .hbm, ⟨103, _⟩ => ⟨S65536, .i32⟩
  | .hbm, ⟨104, _⟩ => ⟨S65536x1, .i32⟩
  | .hbm, ⟨105, _⟩ => ⟨S65536x64, .f32⟩
  | .hbm, ⟨106, _⟩ => ⟨S65536x512, .f32⟩
  | _, _ => ⟨S65536x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_1 : Ref sig .tc := ⟨.hbm, 19, rfl⟩
abbrev main_v15 : Ref sig .tc := ⟨.hbm, 20, rfl⟩
abbrev main_v16 : Ref sig .tc := ⟨.hbm, 21, rfl⟩
abbrev main_c_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_3 : Ref sig .tc := ⟨.hbm, 32, rfl⟩
abbrev main_v26 : Ref sig .tc := ⟨.hbm, 33, rfl⟩
abbrev main_v27 : Ref sig .tc := ⟨.hbm, 34, rfl⟩
abbrev main_c_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_5 : Ref sig .tc := ⟨.hbm, 45, rfl⟩
abbrev main_v37 : Ref sig .tc := ⟨.hbm, 46, rfl⟩
abbrev main_v38 : Ref sig .tc := ⟨.hbm, 47, rfl⟩
abbrev main_c_6 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_c_7 : Ref sig .tc := ⟨.hbm, 58, rfl⟩
abbrev main_v48 : Ref sig .tc := ⟨.hbm, 59, rfl⟩
abbrev main_v49 : Ref sig .tc := ⟨.hbm, 60, rfl⟩
abbrev main_c_8 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_c_9 : Ref sig .tc := ⟨.hbm, 71, rfl⟩
abbrev main_v59 : Ref sig .tc := ⟨.hbm, 72, rfl⟩
abbrev main_v60 : Ref sig .tc := ⟨.hbm, 73, rfl⟩
abbrev main_c_10 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_c_11 : Ref sig .tc := ⟨.hbm, 84, rfl⟩
abbrev main_v70 : Ref sig .tc := ⟨.hbm, 85, rfl⟩
abbrev main_v71 : Ref sig .tc := ⟨.hbm, 86, rfl⟩
abbrev main_c_12 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_c_13 : Ref sig .tc := ⟨.hbm, 97, rfl⟩
abbrev main_v81 : Ref sig .tc := ⟨.hbm, 98, rfl⟩
abbrev main_v82 : Ref sig .tc := ⟨.hbm, 99, rfl⟩
abbrev main_c_14 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩

abbrev nD : Nat := 1
abbrev τ : Topo := Topo.v7x

variable {F : FTy → Type} [FloatOps F]
-- ==== Proof.Trip.lean ====
/-
  One repacking trip, once for all six of the kernel's repacking loops.

  A trip takes eight rows of a gathered 64 x 128 block and lays the first 64 lanes of each side by side in one row of a
  8 x 512 block, sixteen lanes at a time: thirty-two pieces, each a read of the gathered block, a read of the row about
  to be overwritten (whose value is dropped) and a write. The six loops are this program at their own pair of blocks.
-/
module

public import proofs.«01_k».proof.Proof.Gen.Kernel.Skeleton
public import Idealize.ShloMosaic.Lib.Tactic

@[expose] public section

noncomputable section

namespace Cert.Proof.Trip

open Cert.Kernel Cert.Kernel.Gen
open Idealize.ShloMosaic Idealize.SL.Sem

variable {F : FTy → Type} [FloatOps F]

/-- The row count of a repacking loop: eight trips. -/
abbrev Row : Type := Fin k0_t2_loop.trips

/-- Where piece `n` of a trip reads: row `8t + n/4`, lanes `16 (n%4)` on. -/
def src (t : Row) (n : ℕ) : Fin 2 → ℕ :=
  ![(Scalar.indexCast (Scalar.addi (Scalar.muli (Scf.iv 0#32 1#32 t) 8#32) (BitVec.ofNat 32 (n / 4)))).toNat, 16 * (n % 4)]

/-- Where piece `n` of a trip writes: row `t`, lanes `16 n` on. -/
def dst (t : Row) (n : ℕ) : Fin 2 → ℕ := ![(Scalar.indexCast (Scf.iv 0#32 1#32 t)).toNat, 16 * n]

theorem src_eq (t : Row) (n : ℕ) (hn : n < 32) : src t n = ![8 * t.val + n / 4, 16 * (n % 4)] := by
  have h : ∀ t : Row, ∀ k : Fin 8, (Scalar.indexCast (Scalar.addi (Scalar.muli (Scf.iv 0#32 1#32 t) 8#32) (BitVec.ofNat 32 k.val))).toNat = 8 * t.val + k.val := by
    decide +kernel
  have := h t ⟨n / 4, by omega⟩
  simp only at this
  rw [src, this]

theorem dst_eq (t : Row) (n : ℕ) : dst t n = ![t.val, 16 * n] := by
  have h : ∀ t : Row, (Scalar.indexCast (Scf.iv 0#32 1#32 t)).toNat = t.val := by decide +kernel
  rw [dst, h]

theorem src_inb (t : Row) (n : ℕ) (hn : n < 32) : ∀ a, src t n a + S1x16.size a ≤ S64x128.size a := by
  rw [src_eq t n hn]
  have ht : t.val < 8 := t.isLt
  intro a
  fin_cases a
  · show 8 * t.val + n / 4 + 1 ≤ 64; omega
  · show 16 * (n % 4) + 16 ≤ 128; omega

theorem dst_inb (t : Row) (n : ℕ) (hn : n < 32) : ∀ a, dst t n a + S1x16.size a ≤ S8x512.size a := by
  rw [dst_eq t n]
  have ht : t.val < 8 := t.isLt
  intro a
  fin_cases a
  · show t.val + 1 ≤ 8; omega
  · show 16 * n + 16 ≤ 512; omega

/-- Piece `n` of trip `t`. -/
def piece (i : grid0.Coords) (g : Memref sig .scVector .vmem S64x128 .f32) (st : Memref sig .scVector .vmem S8x512 .f32) (t : Row)
    (n : ℕ) (hn : n < 32) : Prog (TpuEff nD τ sig (Elt F) Λ₀ (.scVector ((i 0).castLE hcore0) ((i 1).castLE hsub0))) PUnit := do
  let v : Vec F S1x16 .f32 ← Prog.lift (.load g (Rect.unit (s := S64x128) (src t n) S1x16.size (src_inb t n hn)).toLoadRect (View.loadsAt_vmem h_S1x16))
  let _v : Vec F S1x16 .f32 ← Prog.lift (.load st (Rect.unit (s := S8x512) (dst t n) S1x16.size (dst_inb t n hn)).toLoadRect (View.loadsAt_vmem h_S1x16))
  Prog.lift (.store st (Rect.unit (s := S8x512) (dst t n) S1x16.size (dst_inb t n hn)) (k0_pay5 v) Finset.univ (View.stores_vmem_bits_univ h_S1x16 rfl) (.inl rfl))

/-- The pieces of trip `t` still to do when `r` of the thirty-two remain. -/
def trip (i : grid0.Coords) (g : Memref sig .scVector .vmem S64x128 .f32) (st : Memref sig .scVector .vmem S8x512 .f32) (t : Row) :
    (r : ℕ) → r ≤ 32 → Prog (TpuEff nD τ sig (Elt F) Λ₀ (.scVector ((i 0).castLE hcore0) ((i 1).castLE hsub0))) PUnit
  | 0, _ => pure ⟨⟩
  | r + 1, h => piece i g st t (32 - (r + 1)) (by omega) >>= fun _ => trip i g st t r (by omega)

end Cert.Proof.Trip
-- ==== Proof.Common.lean ====
/-
  What the modules about the kernel's run share: the program as the launch sees it, the resources' algebra, the names of
  the buffers, and the tile the coordinates name.
-/
module

public import proofs.«01_k».proof.Defs
public import proofs.«01_k».proof.Proof.Trip
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Writes
public import Idealize.ShloMosaic.Lib.Tactic

@[expose] public section

noncomputable section

namespace Cert.Proof.Run

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resources: the handshakes' rounds, the barrier's, the copies' counters -/

abbrev UH : Type := URounds (GSem nD τ sig) ℕ
abbrev UB : Type := URounds (GSem nD τ sig) ℕ
abbrev UU : Type := UH × (UB × Counters)

/-- The assertions' algebra. -/
abbrev MM (F : FTy → Type) : Type := MT nD τ sig (HIx 1) (Elt F) ℕ UU ℕ

abbrev EH : Emb UH (MM F) := embL
/-- Where the barrier's rounds live: the left half of the right factor. -/
def EB : Emb UB (MM F) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB (MM F)).LandsIn (upEmb : UEmb _ (MM F)) := by unfold EB; infer_instance
/-- Where the copies' counters live. -/
abbrev EC : UEmb Counters (MM F) := countersEmb (nD := nD) (τ := τ) (sig := sig) (Ix := HIx 1) (Val := Elt F) (Name := ℕ) (U := UU) (Lvl := ℕ)

/-! ## The buffers, as a tile names them -/

/-- The flat codes. -/
abbrev codeM : Memref sig .scVector .hbm S524288 .i32 := Memref.whole main_v0_scv
/-- The padded table. -/
abbrev tabM : Memref sig .scVector .hbm S8192x128 .f32 := Memref.whole main_v2_scv
/-- The result. -/
abbrev outM : Memref sig .scVector .hbm S65536x512 .f32 := Memref.whole main_v3_scv
/-- The SparseCore's own copy of the table. -/
abbrev spM : Memref sig .scVector .shared S8192x128 .f32 := Memref.whole cc0_scratch9
/-- The tile's codes. -/
abbrev idxM : Memref sig .scVector .vmem S16384 .i32 := Memref.whole cc0_scratch0
/-- The two gathered blocks. -/
abbrev gaM : Memref sig .scVector .vmem S64x128 .f32 := Memref.whole cc0_scratch1
abbrev gbM : Memref sig .scVector .vmem S64x128 .f32 := Memref.whole cc0_scratch2
/-- The two repacked blocks. -/
abbrev saM : Memref sig .scVector .vmem S8x512 .f32 := Memref.whole cc0_scratch3
abbrev sbM : Memref sig .scVector .vmem S8x512 .f32 := Memref.whole cc0_scratch4

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

end Cert.Proof.Run
-- ==== Proof.Repack.lean ====
/-
  The repacking loop: from a gathered block `G` of 64 rows it leaves the 8 x 512 block whose row `c`, lane `j` is
  row `8c + j/64`, lane `j%64` of `G`, whatever the block held before.
-/
module

public import proofs.«01_k».proof.Proof.Common

@[expose] public section

noncomputable section

namespace Cert.Proof.Run

open Cert.Kernel Cert.Kernel.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-- Where the repacked place `x` comes from. -/
def spread (x : S8x512.Idx) : S64x128.Idx := fun
  | 0 => ⟨8 * (x 0).val + (x 1).val / 64, by
      have h0 : (x 0).val < 8 := (x 0).isLt
      have h1 : (x 1).val < 512 := (x 1).isLt
      show _ < 64; omega⟩
  | 1 => ⟨(x 1).val % 64, by show _ < 128; omega⟩

theorem spread_0 (x : S8x512.Idx) : (spread x 0).val = 8 * (x 0).val + (x 1).val / 64 := rfl
theorem spread_1 (x : S8x512.Idx) : (spread x 1).val = (x 1).val % 64 := rfl

/-- The rows below `t`, and of row `t` the first `n` groups of sixteen lanes, are repacked. -/
def Filled (G : S64x128.Idx → Elt F .f32) (B : S8x512.Idx → Elt F .f32) (t n : ℕ) : Prop :=
  ∀ x : S8x512.Idx, (x 0).val < t ∨ ((x 0).val = t ∧ (x 1).val < 16 * n) → B x = G (spread x)

theorem Filled.zero (G : S64x128.Idx → Elt F .f32) (B : S8x512.Idx → Elt F .f32) : Filled G B 0 0 := fun x h => by omega

theorem Filled.next {G : S64x128.Idx → Elt F .f32} {B : S8x512.Idx → Elt F .f32} {t : ℕ} (h : Filled G B t 32) : Filled G B (t + 1) 0 :=
  fun x hx => h x (by have h1 : (x 1).val < 512 := (x 1).isLt; omega)

theorem Filled.all {G : S64x128.Idx → Elt F .f32} {B : S8x512.Idx → Elt F .f32} (h : Filled G B 8 0) : B = fun x => G (spread x) :=
  funext fun x => h x (.inl (x 0).isLt)

variable [FloatOps F]

/-- Recasting a row of sixteen lanes there and back is nothing. -/
theorem recast (v : Vec F S1x16 .f32) : k0_pay5 v = v := shapeCast_shapeCast v _ _

section

variable (g : Memref sig .scVector .vmem S64x128 .f32) (st : Memref sig .scVector .vmem S8x512 .f32)

/-- One piece extends what is repacked by sixteen lanes. -/
theorem Filled.piece (t : Trip.Row) (n : ℕ) (hn : n < 32) (fg : g.view.ty.Contents (Elt F)) (f : st.view.ty.Contents (Elt F))
    (h : Filled (g.view.read (Elt F) fg) (st.view.read (Elt F) f) t.val n) :
    Filled (g.view.read (Elt F) fg)
      (st.view.read (Elt F) ((st.access (Rect.unit (s := S8x512) (Trip.dst t n) S1x16.size (Trip.dst_inb t n hn))).write (Elt F) f
        (k0_pay5 ((g.access (Rect.unit (s := S64x128) (Trip.src t n) S1x16.size (Trip.src_inb t n hn))).read (Elt F) fg)) Finset.univ))
      t.val (n + 1) := by
  have s0 : Trip.src t n 0 = 8 * t.val + n / 4 := congrFun (Trip.src_eq t n hn) 0
  have s1 : Trip.src t n 1 = 16 * (n % 4) := congrFun (Trip.src_eq t n hn) 1
  have d0 : Trip.dst t n 0 = t.val := congrFun (Trip.dst_eq t n) 0
  have d1 : Trip.dst t n 1 = 16 * n := congrFun (Trip.dst_eq t n) 1
  intro x hx
  by_cases hm : x ∈ (Rect.unit (s := S8x512) (Trip.dst t n) S1x16.size (Trip.dst_inb t n hn)).set
  · obtain ⟨y, rfl⟩ := (Rect.unit (s := S8x512) (Trip.dst t n) S1x16.size (Trip.dst_inb t n hn)).exists_idx_of_mem hm
    refine (View.read_slice_write_emb (v := st.view) _ f _ (Finset.mem_univ y)).trans ?_
    rw [recast]
    show g.view.read (Elt F) fg _ = g.view.read (Elt F) fg _
    congr 1
    have hy0 : (y 0).val < 1 := (y 0).isLt
    have hy1 : (y 1).val < 16 := (y 1).isLt
    funext a
    apply Fin.ext
    match a with
    | 0 =>
      show Trip.src t n 0 + 1 * (y 0).val = 8 * (Trip.dst t n 0 + 1 * (y 0).val) + (Trip.dst t n 1 + 1 * (y 1).val) / 64
      omega
    | 1 =>
      show Trip.src t n 1 + 1 * (y 1).val = (Trip.dst t n 1 + 1 * (y 1).val) % 64
      omega
  · refine (View.read_slice_write_of_not_mem (v := st.view) _ f _ Finset.univ (by rwa [Rect.map_emb_univ])).trans (h x ?_)
    rw [Rect.mem_set_unit] at hm
    have h0 : (x 0).val < 8 := (x 0).isLt
    have h1 : (x 1).val < 512 := (x 1).isLt
    by_contra hc
    apply hm
    intro a
    match a with
    | 0 => exact ⟨by omega, show (x 0).val < Trip.dst t n 0 + 1 by omega⟩
    | 1 => exact ⟨by omega, show (x 1).val < Trip.dst t n 1 + 16 by omega⟩

variable (d : Dev nD) (L : grid0.Coords)

/-- The gathered block at contents `fg`, and the repacked one filled so far. -/
def repackI (fg : g.view.ty.Contents (Elt F)) (t n : ℕ) : sProp (MM F) :=
  iprop((g.view.loc (thr d L) ↦[g.view.set]{fullShare} fg)
    ∗ ∃ f, ⌜Filled (g.view.read (Elt F) fg) (st.view.read (Elt F) f) t n⌝ ∗ (st.view.loc (thr d L) ↦[st.view.set]{fullShare} f))

theorem wp_piece (fg : g.view.ty.Contents (Elt F)) (t : Trip.Row) (n : ℕ) (hn : n < 32) :
    repackI g st d L fg t.val n ⊢ wp frame (wpE (defs₀ (F := F)) 𝒱₀ (thr d L) none) Set.univ (Trip.piece L g st t n hn)
      fun _ => repackI g st d L fg t.val (n + 1) := by
  unfold repackI Trip.piece
  iintro ⟨Hg, %f, %hf, Hs⟩
  iapply (wp_load_rect 𝒱₀ (thr d L) none Set.univ (View.set_slice_subset _ _)) $$ [Hg]
  · iexact Hg
  iintro Hg
  iapply (wp_load_rect 𝒱₀ (thr d L) none Set.univ (View.set_slice_subset _ _)) $$ [Hs]
  · iexact Hs
  iintro Hs
  iapply (wp_store 𝒱₀ (thr d L) none Set.univ (View.set_slice_subset _ _)) $$ [Hs]
  · iexact Hs
  iintro Hs
  sl_step
  isplitl [Hg]
  · iexact Hg
  iexists _
  isplitr
  · ipureintro; exact Filled.piece g st t n hn fg f hf
  · iexact Hs

theorem wp_trip (fg : g.view.ty.Contents (Elt F)) (t : Trip.Row) : ∀ (r : ℕ) (hr : r ≤ 32),
    repackI g st d L fg t.val (32 - r) ⊢ wp frame (wpE (defs₀ (F := F)) 𝒱₀ (thr d L) none) Set.univ (Trip.trip L g st t r hr)
      fun _ => repackI g st d L fg t.val 32
  | 0, _ => by
    rw [Trip.trip]
    show _ ⊢ wp _ _ _ (pure _) _
    rw [wp_pure]
    iintro H; imodintro; iexact H
  | r + 1, hr => by
    rw [Trip.trip, wp_bind]
    refine (wp_piece g st d L fg t (32 - (r + 1)) (by omega)).trans (wp_mono _ _ _ fun _ => ?_)
    rw [show 32 - (r + 1) + 1 = 32 - r by omega]
    exact wp_trip fg t r (by omega)

end

end Cert.Proof.Run
-- ==== Proof.Program.lean ====
/-
  The tile's program in five steps of our own: start a gather, wait for it, repack, start the write of a block, wait for it.
  The printed body is this program by unfolding.
-/
module

public import proofs.«01_k».proof.Proof.Common

@[expose] public section

noncomputable section

namespace Cert.Proof.Run

open Cert.Kernel Cert.Kernel.Gen
open Idealize.ShloMosaic
open Idealize.SL.Sem

variable {F : FTy → Type} [FloatOps F]

/-- What the tile at coordinates `i` can do. -/
abbrev TileE (F : FTy → Type) (i : grid0.Coords) := TpuEff nD τ sig (Elt F) Λ₀ (.scVector ((i 0).castLE hcore0) ((i 1).castLE hsub0))

/-- The semaphores: of the two gathers, of the two writes, of the table's copy and of the codes'. -/
abbrev gsA : DmaSem sig := cc0_scratch5.sem
abbrev gsB : DmaSem sig := cc0_scratch6.sem
abbrev wsA : DmaSem sig := cc0_scratch7.sem
abbrev wsB : DmaSem sig := cc0_scratch8.sem
abbrev tsem : DmaSem sig := cc0_scoped0.sem
abbrev csem : DmaSem sig := cc0_scoped1.sem

/-- The shared table as the gathers name it. -/
abbrev srcM : Memref sig .scVector .shared S8192x128 .f32 :=
  spM.slice (Rect.unit (s := S8192x128) ![0, 0] S8192x128.size inb_S8192x128_S8192x128_0_0) (fun _ => rfl)
/-- The sixty-four codes from `off` on. -/
abbrev listM (off : Fin 1 → ℕ) (h : ∀ a, off a + S64.size a ≤ S16384.size a) : Memref sig .scVector .vmem S64 .i32 :=
  idxM.slice (Rect.unit (s := S16384) off S64.size h) (fun _ => rfl)
/-- The result's block at `off`. -/
abbrev blockM (off : Fin 2 → ℕ) (h : ∀ a, off a + S8x512.size a ≤ S65536x512.size a) : Memref sig .scVector .hbm S8x512 .f32 :=
  outM.slice (Rect.unit (s := S65536x512) off S8x512.size h) (fun _ => rfl)
/-- The tile's codes among all. -/
abbrev codesM (i : grid0.Coords) : Memref sig .scVector .hbm S16384 .i32 :=
  codeM.slice (Rect.unit (s := S524288) (k0_off1 i) S16384.size (k0_off1_inb i)) (fun _ => rfl)

/-- Start the gather of the rows the list names. -/
def issue (i : grid0.Coords) (g : Memref sig .scVector .vmem S64x128 .f32) (sem : DmaSem sig) (off : Fin 1 → ℕ)
    (h : ∀ a, off a + S64.size a ≤ S16384.size a) : Prog (TileE F i) PUnit :=
  SparseCore.enqueueIndirectGather rfl srcM g gathers_S8192x128_S64x128 (listM off h) rfl sem (View.wordExact_bits rfl) rfl (Or.inr rfl)

/-- Wait for it. -/
def take (i : grid0.Coords) (g : Memref sig .scVector .vmem S64x128 .f32) (hg : g.IsWhole) (sem : DmaSem sig) : Prog (TileE F i) PUnit :=
  SparseCore.waitIndirectGather sem srcM g (View.wordExact_bits rfl) hg.wordExact

/-- Repack the eight rows. -/
def repack (i : grid0.Coords) (g : Memref sig .scVector .vmem S64x128 .f32) (st : Memref sig .scVector .vmem S8x512 .f32) : Prog (TileE F i) PUnit :=
  Scf.Loop.for k0_t2_loop k0_t2_ok ⟨⟩ fun t _ => Trip.trip i g st t 32 le_rfl

/-- Start the write of a block of the result. -/
def put (i : grid0.Coords) (st : Memref sig .scVector .vmem S8x512 .f32) (hst : st.IsWhole) (sem : DmaSem sig) (off : Fin 2 → ℕ)
    (h : ∀ a, off a + S8x512.size a ≤ S65536x512.size a) : Prog (TileE F i) PUnit :=
  Prog.lift (.enqueueDma st (.here (blockM off h)) (.dma sem) hst.wordExact (View.wordExact_bits rfl) ⟨Or.inl rfl, trivial⟩)

/-- Wait for it. -/
def landed (i : grid0.Coords) (st : Memref sig .scVector .vmem S8x512 .f32) (hst : st.IsWhole) (sem : DmaSem sig) (off : Fin 2 → ℕ)
    (h : ∀ a, off a + S8x512.size a ≤ S65536x512.size a) : Prog (TileE F i) PUnit :=
  Prog.lift (.waitDma2 sem st (blockM off h) hst.wordExact (View.wordExact_bits rfl))

/-- Tile 0 of the core brings the table in. -/
def stage (i : grid0.Coords) : Prog (TileE F i) PUnit := do
  Prog.lift (.enqueueDma tabM (.here spM) (.dma tsem) (Memref.isWhole_whole _).wordExact (Memref.isWhole_whole _).wordExact ⟨Or.inl rfl, trivial⟩)
  Prog.lift (.waitDma2 tsem tabM spM (Memref.isWhole_whole _).wordExact (Memref.isWhole_whole _).wordExact)
  pure ⟨⟩

/-- The tile's codes brought in. -/
def fetch (i : grid0.Coords) : Prog (TileE F i) PUnit := do
  Prog.lift (.enqueueDma (codesM i) (.here idxM) (.dma csem) (View.wordExact_bits rfl) (Memref.isWhole_whole _).wordExact ⟨Or.inl rfl, trivial⟩)
  Prog.lift (.waitDma2 csem (codesM i) idxM (View.wordExact_bits rfl) (Memref.isWhole_whole _).wordExact)
  pure ⟨⟩

/-- Sixteen codes moved to their subspace's rows. -/
def shift (i : grid0.Coords) (t : Fin k0_t1_loop.trips) : Prog (TileE F i) PUnit := do
  let v : Vec F S16 .i32 ← Prog.lift (.load idxM (Rect.unit (s := S16384) (k0_off2 t) S16.size (k0_off2_inb t)).toLoadRect (View.loadsAt_vmem h_S16))
  let _w : Vec F S16 .i32 ← Prog.lift (.load idxM (Rect.unit (s := S16384) (k0_off2 t) S16.size (k0_off2_inb t)).toLoadRect (View.loadsAt_vmem h_S16))
  Prog.lift (.store idxM (Rect.unit (s := S16384) (k0_off2 t) S16.size (k0_off2_inb t)) (k0_pay199 v) Finset.univ (View.stores_vmem_bits_univ h_S16 rfl) (.inl rfl))
  pure ⟨⟩

/-- The first part but the table: the codes in and moved, the barrier, the first two gathers started, the first of them here. -/
def part1' (i : grid0.Coords) : Prog (TileE F i) (Σ' (_ : BitVec 32) (_ : BitVec 32), BitVec 32) := do
  fetch i
  Scf.Loop.for k0_t1_loop k0_t1_ok ⟨⟩ fun t _ => shift i t
  SparseCore.subcoreBarrier sc_bar0 (grid0.bound 1) hsub0
  issue i gaM gsA ![0] inb_S16384_S64_0
  issue i gbM gsB ![64] inb_S16384_S64_64
  take i gaM (Memref.isWhole_whole _) gsA
  pure ⟨Scalar.muli (Scalar.addi (Scalar.muli (BitVec.ofNat 32 (i 1).val) 2#32) (BitVec.ofNat 32 (i 0).val)) 2048#32, 0#32, 1#32⟩

/-- Whether the tile is its core's first, as the program asks it. -/
abbrev first (i : grid0.Coords) : BitVec 1 :=
  Scalar.cmpi .ne (Scalar.extui (Scalar.cmpi .eq (BitVec.ofNat 32 (i 1).val) 0#32) : BitVec 32) 0#32

/-- The first part. -/
def part1 (i : grid0.Coords) : Prog (TileE F i) (Σ' (_ : BitVec 32) (_ : BitVec 32), BitVec 32) :=
  if _h : first i = 1#1 then do
    stage i
    part1' i
  else part1' i

/-- The first half of a round: the next gather into the second block, the first block repacked and written, the gather after. -/
def half (i : grid0.Coords) (t : Fin k0_t4_loop.trips) : Prog (TileE F i) (Σ' (_ : BitVec 32), BitVec 32) := do
  issue i gbM gsB (k0_off76 t 1#32) (k0_off76_inb t 0)
  take i gaM (Memref.isWhole_whole _) gsA
  landed i saM (Memref.isWhole_whole _) wsA (k0_off77 i) (k0_off77_inb i)
  repack i gaM saM
  put i saM (Memref.isWhole_whole _) wsA (k0_off114 i t) (k0_off114_inb i t)
  issue i gaM gsA (k0_off76 t 2#32) (k0_off76_inb t 1)
  take i gbM (Memref.isWhole_whole _) gsB
  landed i sbM (Memref.isWhole_whole _) wsB (k0_off77 i) (k0_off77_inb i)
  pure ⟨Scalar.muli 2#32 (Scf.iv 1#32 1#32 t), 0#32⟩

/-- A round of two blocks. -/
def round (i : grid0.Coords) (t : Fin k0_t4_loop.trips) : Prog (TileE F i) PUnit := do
  let _ ← half i t
  repack i gbM sbM
  put i sbM (Memref.isWhole_whole _) wsB (k0_off151 i t) (k0_off151_inb i t)
  pure ⟨⟩

/-- The second part: the first two blocks, the rounds, the last block's gather. -/
def part2 (i : grid0.Coords) : Prog (TileE F i) PUnit := do
  repack i gaM saM
  put i saM (Memref.isWhole_whole _) wsA (k0_off39 i 0#32) (k0_off39_inb i 0)
  issue i gaM gsA ![128] inb_S16384_S64_128
  take i gbM (Memref.isWhole_whole _) gsB
  repack i gbM sbM
  put i sbM (Memref.isWhole_whole _) wsB (k0_off39 i 8#32) (k0_off39_inb i 1)
  Scf.Loop.for k0_t4_loop k0_t4_ok ⟨⟩ fun t _ => round i t
  issue i gbM gsB ![16320] inb_S16384_S64_16320
  take i gaM (Memref.isWhole_whole _) gsA
  landed i saM (Memref.isWhole_whole _) wsA (k0_off152 i) (k0_off152_inb i)
  pure ⟨⟩

/-- The whole program. -/
def tileProg (i : grid0.Coords) : Prog (TileE F i) PUnit := do
  let _ ← part1 i
  part2 i
  repack i gaM saM
  put i saM (Memref.isWhole_whole _) wsA (k0_off39 i 2032#32) (k0_off39_inb i 2)
  take i gbM (Memref.isWhole_whole _) gsB
  landed i sbM (Memref.isWhole_whole _) wsB (k0_off152 i) (k0_off152_inb i)
  repack i gbM sbM
  put i sbM (Memref.isWhole_whole _) wsB (k0_off39 i 2040#32) (k0_off39_inb i 3)
  landed i saM (Memref.isWhole_whole _) wsA (k0_off152 i) (k0_off152_inb i)
  landed i sbM (Memref.isWhole_whole _) wsB (k0_off152 i) (k0_off152_inb i)
  pure ⟨⟩

set_option maxRecDepth 65536 in
theorem round_eq (i : grid0.Coords) (t : Fin k0_t4_loop.trips) (u : Unit) :
    k0_t4_body (F := F) i codeM (Memref.isWhole_whole _) tabM (Memref.isWhole_whole _) outM (Memref.isWhole_whole _) idxM (Memref.isWhole_whole _)
      gaM (Memref.isWhole_whole _) gbM (Memref.isWhole_whole _) saM (Memref.isWhole_whole _) sbM (Memref.isWhole_whole _)
      cc0_scratch5 cc0_scratch6 cc0_scratch7 cc0_scratch8 spM (Memref.isWhole_whole _) cc0_scoped0 cc0_scoped1
      (Scalar.muli (Scalar.addi (Scalar.muli (BitVec.ofNat 32 (i 1).val) 2#32) (BitVec.ofNat 32 (i 0).val)) 2048#32) 0#32 1#32 t u = round i t := rfl

set_option maxRecDepth 65536 in
theorem body_eq (i : grid0.Coords) :
    cc0__pq_decode_body (F := F) i codeM (Memref.isWhole_whole _) tabM (Memref.isWhole_whole _) outM (Memref.isWhole_whole _) idxM (Memref.isWhole_whole _)
      gaM (Memref.isWhole_whole _) gbM (Memref.isWhole_whole _) saM (Memref.isWhole_whole _) sbM (Memref.isWhole_whole _)
      cc0_scratch5 cc0_scratch6 cc0_scratch7 cc0_scratch8 spM (Memref.isWhole_whole _) cc0_scoped0 cc0_scoped1 = tileProg i := rfl

end Cert.Proof.Run
-- ==== Proof.Value.lean ====
/-
  What the kernel computes, as functions of the flat codes and the padded table: the table row each code names once it is
  moved to its subspace, the block of sixty-four rows a gather brings, and the result.
-/
module

public import proofs.«01_k».proof.Proof.Repack
public import proofs.«01_k».proof.Proof.Program

@[expose] public section

noncomputable section

namespace Cert.Proof.Run

open Cert.Kernel Cert.Kernel.Gen
open Idealize.ShloMosaic

variable {F : FTy → Type}

/-- The flat place `n` of the codes. -/
def flat (n : ℕ) (h : n < 524288) : S524288.Idx := fun
  | 0 => ⟨n, h⟩

/-- The place `(r, k)` of the table. -/
def cell (r k : ℕ) (hr : r < 8192) (hk : k < 128) : S8192x128.Idx := fun
  | 0 => ⟨r, hr⟩
  | 1 => ⟨k, hk⟩

/-- The tile's number. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

variable (cf : S524288.Idx → Elt F .i32) (tb : S8192x128.Idx → Elt F .f32)

/-- The flat code `n`, moved to its subspace's rows. -/
def moved (n : ℕ) (h : n < 524288) : BitVec 32 := (cf (flat n h) : BitVec 32) + BitVec.ofNat 32 (n % 8 * 1024)

/-- The tile's codes as they come in, and moved. -/
def codesC (L : grid0.Coords) : S16384.Idx → Elt F .i32 := fun x =>
  cf (flat (16384 * wid L + (x 0).val) (by have h1 : (x 0).val < 16384 := (x 0).isLt; have := wid_lt L; omega))
def idxC (L : grid0.Coords) : S16384.Idx → Elt F .i32 := fun x =>
  moved cf (16384 * wid L + (x 0).val) (by have h1 : (x 0).val < 16384 := (x 0).isLt; have := wid_lt L; omega)

/-- The place of the table that lane `k` of the row of flat code `n` is. -/
def place (n k : ℕ) (h : n < 524288) (hk : k < 128) : S8192x128.Idx :=
  cell ((moved cf n h).toNat % 8192) k (Nat.mod_lt _ (by decide)) hk

/-- Block `p` of the tile's gathered rows. -/
def blockG (L : grid0.Coords) (p : Fin 256) : S64x128.Idx → Elt F .f32 := fun x =>
  tb (place cf (16384 * wid L + 64 * p.val + (x 0).val) (x 1).val
    (by have h1 : (x 0).val < 64 := (x 0).isLt; have := wid_lt L; have := p.isLt; omega) (x 1).isLt)

/-- The result. -/
def outC : S65536x512.Idx → Elt F .f32 := fun x =>
  tb (place cf (8 * (x 0).val + (x 1).val / 64) ((x 1).val % 64)
    (by have h0 : (x 0).val < 65536 := (x 0).isLt; have h1 : (x 1).val < 512 := (x 1).isLt; omega) (by omega))

theorem place_congr {n n' k k' : ℕ} (hn : n = n') (hk : k = k') (h : n < 524288) (h' : k < 128) :
    place cf n k h h' = place cf n' k' (hn ▸ h) (hk ▸ h') := by subst hn; subst hk; rfl

/-- The repacked block `p` is the result's rows from `2048 wid + 8p` on. -/
theorem blockG_spread (L : grid0.Coords) (p : Fin 256) (x : S8x512.Idx) (y : S65536x512.Idx)
    (h0 : (y 0).val = 2048 * wid L + 8 * p.val + (x 0).val) (h1 : (y 1).val = (x 1).val) :
    blockG cf tb L p (spread x) = outC cf tb y := by
  unfold blockG outC
  refine congrArg tb (place_congr cf ?_ ?_ _ _)
  · rw [spread_0, h0, h1]
    have : (x 1).val < 512 := (x 1).isLt
    omega
  · rw [spread_1, h1]

variable {cf}

theorem moved_lt (hcf : ∀ x, (cf x : BitVec 32).toNat < 1024) (n : ℕ) (h : n < 524288) : (moved cf n h).toNat < 8192 := by
  unfold moved
  have := hcf (flat n h)
  rw [BitVec.toNat_add, BitVec.toNat_ofNat]
  omega

theorem moved_toNat (hcf : ∀ x, (cf x : BitVec 32).toNat < 1024) (n : ℕ) (h : n < 524288) :
    (moved cf n h).toNat = (cf (flat n h) : BitVec 32).toNat + n % 8 * 1024 := by
  unfold moved
  have := hcf (flat n h)
  rw [BitVec.toNat_add, BitVec.toNat_ofNat]
  omega

end Cert.Proof.Run
-- ==== Proof.Steps.lean ====
/-
  The five steps' rules: what each takes and leaves of the tile's buffers, shares and semaphores.
-/
module

public import proofs.«01_k».proof.Proof.Value

@[expose] public section

noncomputable section

namespace Cert.Proof.Run

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (cf : S524288.Idx → Elt F .i32) (tb : S8192x128.Idx → Elt F .f32) (hcf : ∀ x, (cf x : BitVec 32).toNat < 1024)
variable (d : Dev nD) (L : grid0.Coords)

/-! ## The assertions -/

/-- A share of the shared table. -/
def spS (q : PosShare TreeShare) : sProp (MM F) := iprop(srcM.view.loc (thr d L) ↦[srcM.view.set]{q} tb)
/-- A share of the tile's moved codes. -/
def idS (q : PosShare TreeShare) : sProp (MM F) := iprop(idxM.view.loc (thr d L) ↦[Finset.univ]{q} idxC cf L)

/-- A gathered block, at whatever, and at block `p`. -/
def gAny (g : Memref sig .scVector .vmem S64x128 .f32) : sProp (MM F) :=
  iprop(∃ f, g.view.loc (thr d L) ↦[g.view.set]{fullShare} f)
def gAt (g : Memref sig .scVector .vmem S64x128 .f32) (p : Fin 256) : sProp (MM F) :=
  iprop(∃ f, ⌜g.view.read (Elt F) f = blockG cf tb L p⌝ ∗ (g.view.loc (thr d L) ↦[g.view.set]{fullShare} f))

/-- A repacked block, at whatever, and at block `p`. -/
def sAny (st : Memref sig .scVector .vmem S8x512 .f32) : sProp (MM F) :=
  iprop(∃ f, st.view.loc (thr d L) ↦[st.view.set]{fullShare} f)
def sAt (st : Memref sig .scVector .vmem S8x512 .f32) (p : Fin 256) : sProp (MM F) :=
  iprop(∃ f, ⌜st.view.read (Elt F) f = fun x => blockG cf tb L p (spread x)⌝ ∗ (st.view.loc (thr d L) ↦[st.view.set]{fullShare} f))

/-- The result's rows from `a` up to `b`. -/
def rows (a b : ℕ) : Finset S65536x512.Idx := Finset.univ.filter fun x => a ≤ (x 0).val ∧ (x 0).val < b

theorem mem_rows {a b : ℕ} {x : S65536x512.Idx} : x ∈ rows a b ↔ a ≤ (x 0).val ∧ (x 0).val < b := by
  unfold rows; rw [Finset.mem_filter]; exact and_iff_right (Finset.mem_univ _)

/-- The result's rows from `a` up to `b`, at `f`. -/
def outS (a b : ℕ) (f : S65536x512.Idx → Elt F .f32) : sProp (MM F) :=
  iprop(outM.view.loc (thr d L) ↦[rows a b]{fullShare} f)

/-- Block `p`'s first row. -/
def row0 (n : ℕ) : ℕ := 2048 * wid L + 8 * n

/-- The gather of block `p` under way. -/
def gFl (g : Memref sig .scVector .vmem S64x128 .f32) (sem : DmaSem sig) (q : PosShare TreeShare) (p : Fin 256) : sProp (MM F) :=
  iprop(∃ Sl : Finset (Idx (idxM.view.loc (thr d L))),
    Transfers.Flight EC (thr d L) (.dma sem) none g.view.dmaCredit
      iprop(gAt cf tb d L g p ∗ spS tb d L q ∗ (idxM.view.loc (thr d L) ↦[Sl]{q} idxC cf L))
    ∗ (idxM.view.loc (thr d L) ↦[Finset.univ \ Sl]{q} idxC cf L))

/-- The write of block `p` under way. -/
def wFl (st : Memref sig .scVector .vmem S8x512 .f32) (sem : DmaSem sig) (n : ℕ) : sProp (MM F) :=
  Transfers.Flight EC (thr d L) (.dma sem) none 131072
    iprop(outS d L (row0 L n) (row0 L (n + 1)) (outC cf tb) ∗ sAny d L st)

/-- A semaphore's counter at zero. -/
abbrev zero (sem : DmaSem sig) : sProp (MM F) := semVal (thr d L, SemLoc.dma sem) 0

variable (O : CellTallies nD τ sig (HIx 1)) (W : Waits sig (HIx 1))

/-- What the tile owes, having waited for copies since `W`. -/
def ow : sProp (MM F) := iprop(∃ W', ⌜∀ p ∈ W', p ∈ W ∨ p.2 = none⌝ ∗ owes (thr d L) O W')

/-! ## The rules -/

omit [FloatOps F] in
theorem mem_block {off : Fin 2 → ℕ} (h : ∀ a, off a + S8x512.size a ≤ S65536x512.size a) {a : ℕ} (ho : off = ![a, 0]) :
    (blockM off h).view.set = rows a (a + 8) := by
  subst ho
  refine (View.set_slice_whole _ _).trans ?_
  ext x
  rw [Rect.mem_set_unit, mem_rows]
  have h1 : (x 1).val < 512 := (x 1).isLt
  refine ⟨fun h => h 0, fun h a => ?_⟩
  match a with
  | 0 => exact h
  | 1 => exact ⟨Nat.zero_le _, by show (x 1).val < 0 + 512; omega⟩

omit [FloatOps F] in
theorem src_read : srcM.view.read (Elt F) tb = tb := by
  funext x
  show tb _ = tb x
  congr 1
  funext a
  apply Fin.ext
  match a with
  | 0 => show 0 + 1 * (x 0).val = (x 0).val; omega
  | 1 => show 0 + 1 * (x 1).val = (x 1).val; omega

omit [FloatOps F] in
theorem list_read {off : Fin 1 → ℕ} (h : ∀ a, off a + S64.size a ≤ S16384.size a) (p : Fin 256) (ho : off = ![64 * p.val]) (x : S64.Idx) :
    (listM off h).view.read (Elt F) (idxC cf L) x = moved cf (16384 * wid L + 64 * p.val + (x 0).val)
      (by have h1 : (x 0).val < 64 := (x 0).isLt; have := wid_lt L; have := p.isLt; omega) := by
  subst ho
  have e : ∀ n n' (hn : n < 524288) (e : n = n'), moved cf n hn = moved cf n' (e ▸ hn) := fun n n' hn e => by subst e; rfl
  refine (e _ _ _ ?_)
  show 16384 * wid L + (64 * p.val + 1 * (x 0).val) = _
  omega

include hcf in
theorem wp_issue {α : Type} {g : Memref sig .scVector .vmem S64x128 .f32} {sem : DmaSem sig} (hg : g.IsWhole) {q : PosShare TreeShare} (p : Fin 256)
    {off : Fin 1 → ℕ} {h : ∀ a, off a + S64.size a ≤ S16384.size a} (ho : off = ![64 * p.val])
    {k : PUnit → Prog (TileE F L) α} {Q : α → sProp (MM F)} :
    iprop(gAny d L g ∗ spS tb d L q ∗ idS cf d L q ∗ zero d L sem)
      ⊢ iprop((gFl cf tb d L g sem q p -∗ wp frame (wpE (defs₀ (F := F)) 𝒱₀ (thr d L) none) Set.univ (k ⟨⟩) Q)
          -∗ wp frame (wpE (defs₀ (F := F)) 𝒱₀ (thr d L) none) Set.univ (issue L g sem off h >>= k) Q) := by
  have hin : ∀ x, ((listM off h).view.read (Elt F) (idxC cf L) x).toNat < S8192x128.size (gathers_S8192x128_S64x128 : S8192x128.Gathers _ _).axis := by
    intro x
    rw [list_read cf L h p ho]
    exact moved_lt hcf _ _
  unfold gAny spS idS issue gFl
  iintro ⟨⟨%f, Hg⟩, Hs, Hi, Hv⟩ Hk
  ihave Hi := (pointsTo_split_subset (I := (listM off h).view.set) (Finset.subset_univ _)).1 $$ Hi
  icases Hi with ⟨Hl, Hr⟩
  iapply (SparseCore.wp_indirectGatherLocal EC 𝒱₀ (thr d L) none none g.view.dmaCredit
    (SparseCore.sum_rowCredit_eq_dmaCredit g _ fun _ => rfl) (by decide) hin) $$ [Hg Hs Hl Hv]
  · isplitl [Hs]; · iexact Hs
    isplitl [Hg]; · iexact Hg
    isplitl [Hl]; · iexact Hl
    iexact Hv
  iintro Hf
  iapply Hk
  iexists (listM off h).view.set
  isplitl [Hf]
  · iapply (Transfers.Flight_mono EC (thr d L) ?_) $$ Hf
    unfold gAt spS
    iintro ⟨Hg, Hs, Hl⟩
    isplitl [Hg]
    · iexists _
      isplitr
      swap
      · iexact Hg
      · ipureintro
        rw [View.read_write_univ, src_read]
        funext x
        unfold SparseCore.gatherPayload blockG
        refine congrArg tb (funext fun a => Fin.ext ?_)
        match a with
        | 0 =>
          have e := congrArg Fin.val ((gathers_S8192x128_S64x128 : S8192x128.Gathers 0 S64x128).idx_axis
            (SparseCore.rows ((listM off h).view.read (Elt F) (idxC cf L)) rfl hin) x)
          refine e.trans ?_
          have hx : ((S64.rowMajor.symm (Fin.cast rfl (x 0))) 0).val = (x 0).val := by
            rw [← Shape.rowMajor_val_one, Equiv.apply_symm_apply]; rfl
          show ((listM off h).view.read (Elt F) (idxC cf L) (S64.rowMajor.symm (Fin.cast rfl (x 0)))).toNat = (moved cf _ _).toNat % 8192
          rw [list_read cf L h p ho, Nat.mod_eq_of_lt (moved_lt hcf _ _)]
          congr 2
          omega
        | 1 =>
          exact (gathers_S8192x128_S64x128 : S8192x128.Gathers 0 S64x128).idx_of_ne _ x 1 (by decide)
    isplitl [Hs]; · iexact Hs
    iexact Hl
  · iexact Hr

theorem wp_take {α : Type} {g : Memref sig .scVector .vmem S64x128 .f32} {hg : g.IsWhole} {sem : DmaSem sig} {q : PosShare TreeShare} {p : Fin 256}
    {k : PUnit → Prog (TileE F L) α} {Q : α → sProp (MM F)} :
    iprop(gFl cf tb d L g sem q p ∗ ow d L O W ∗ Transfers.MayWaits (thr d L) none O)
      ⊢ iprop((iprop(gAt cf tb d L g p ∗ spS tb d L q ∗ idS cf d L q ∗ zero d L sem ∗ ow d L O W)
            -∗ wp frame (wpE (defs₀ (F := F)) 𝒱₀ (thr d L) none) Set.univ (k ⟨⟩) Q)
          -∗ wp frame (wpE (defs₀ (F := F)) 𝒱₀ (thr d L) none) Set.univ (take L g hg sem >>= k) Q) := by
  unfold gFl ow take
  iintro ⟨⟨%Sl, Hf, Hr⟩, ⟨%W', %hW, HO⟩, Hmw⟩ Hk
  iapply (Transfers.wp_waitLocalO EC 𝒱₀ (thr d L) none none (N := g.view.dmaCredit) rfl) $$ [Hf HO Hmw]
  · isplitl [Hf]; · iexact Hf
    isplitl [HO]; · iexact HO
    iapply (Transfers.MayWaits.elim (.dma sem)) $$ Hmw
  iintro ⟨⟨Hg, Hs, Hl⟩, Hv, HO⟩
  iapply Hk
  isplitl [Hg]; · iexact Hg
  isplitl [Hs]; · iexact Hs
  isplitl [Hl Hr]
  · unfold idS
    iapply (pointsTo_split_subset (I := Sl) (Finset.subset_univ _)).2
    isplitl [Hl]; · iexact Hl
    iexact Hr
  isplitl [Hv]; · iexact Hv
  iexists _
  isplitr
  swap
  · iexact HO
  ipureintro
  intro p hp
  rcases Finset.mem_insert.mp hp with rfl | hp
  · exact .inr rfl
  · exact hW p hp

theorem wp_repack {α : Type} {g : Memref sig .scVector .vmem S64x128 .f32} {st : Memref sig .scVector .vmem S8x512 .f32} {p : Fin 256}
    {k : PUnit → Prog (TileE F L) α} {Q : α → sProp (MM F)} :
    iprop(gAt cf tb d L g p ∗ sAny d L st)
      ⊢ iprop((iprop(gAny d L g ∗ sAt cf tb d L st p)
            -∗ wp frame (wpE (defs₀ (F := F)) 𝒱₀ (thr d L) none) Set.univ (k ⟨⟩) Q)
          -∗ wp frame (wpE (defs₀ (F := F)) 𝒱₀ (thr d L) none) Set.univ (repack L g st >>= k) Q) := by
  unfold gAt sAny repack
  iintro ⟨⟨%fg, %hfg, Hg⟩, ⟨%f, Hs⟩⟩ Hk
  sl_for (fun t _ => repackI g st d L fg t 0) $$ [Hg Hs]
  · intro t _
    refine (wp_trip g st d L fg t 32 le_rfl).trans (wp_mono _ _ _ fun _ => ?_)
    unfold repackI
    iintro ⟨Hg, %f, %hf, Hs⟩
    isplitl [Hg]; · iexact Hg
    iexists f
    isplitr
    · ipureintro; exact hf.next
    · iexact Hs
  · unfold repackI
    isplitl [Hg]; · iexact Hg
    iexists f
    isplitr
    · ipureintro; exact Filled.zero _ _
    · iexact Hs
  unfold repackI
  iintro %_ ⟨Hg, %f, %hf, Hs⟩
  iapply Hk
  unfold gAny sAt
  isplitl [Hg]
  · iexists fg; iexact Hg
  iexists f
  isplitr
  · ipureintro; rw [← hfg]; exact Filled.all hf
  · iexact Hs

theorem wp_put {α : Type} {st : Memref sig .scVector .vmem S8x512 .f32} {hst : st.IsWhole} {sem : DmaSem sig} (p : Fin 256) {fo : S65536x512.Idx → Elt F .f32}
    {off : Fin 2 → ℕ} {h : ∀ a, off a + S8x512.size a ≤ S65536x512.size a} (ho : off = ![row0 L p.val, 0])
    {k : PUnit → Prog (TileE F L) α} {Q : α → sProp (MM F)} :
    iprop(sAt cf tb d L st p ∗ outS d L (row0 L p.val) (row0 L (p.val + 1)) fo ∗ zero d L sem)
      ⊢ iprop((wFl cf tb d L st sem p.val -∗ wp frame (wpE (defs₀ (F := F)) 𝒱₀ (thr d L) none) Set.univ (k ⟨⟩) Q)
          -∗ wp frame (wpE (defs₀ (F := F)) 𝒱₀ (thr d L) none) Set.univ (put L st hst sem off h >>= k) Q) := by
  have hset : rows (row0 L p.val) (row0 L (p.val + 1)) = (blockM off h).view.set := by
    rw [mem_block h ho]; unfold row0; congr 1
  unfold sAt outS wFl put
  iintro ⟨⟨%f, %hf, Hs⟩, Ho, Hv⟩ Hk
  iapply (Transfers.wp_dmaLocal EC 𝒱₀ (thr d L) none (dst := blockM off h) (Sd := rows (row0 L p.val) (row0 L (p.val + 1))) (fd := fo) none 131072 rfl (by decide) hset.ge) $$ [Hs Ho Hv]
  · isplitl [Hs]; · iexact Hs
    isplitl [Ho]; · iexact Ho
    iexact Hv
  iintro Hf
  iapply Hk
  iapply (Transfers.Flight_mono EC (thr d L) ?_) $$ Hf
  unfold outS sAny
  iintro ⟨Ho, Hs⟩
  isplitl [Ho]
  · iapply (Entails.of_eq (pointsTo_congr ?_)) $$ Ho
    intro y hy
    rw [hset] at hy
    obtain ⟨x, -, rfl⟩ := Finset.mem_map.mp hy
    rw [View.write_emb_of_mem _ _ (Finset.mem_univ x), ReadAs.apply_same]
    refine (congrFun hf x).trans (blockG_spread cf tb L p x _ ?_ ?_)
    · show off 0 + 1 * (x 0).val = _
      rw [ho]; show row0 L p.val + 1 * (x 0).val = _; unfold row0; omega
    · show off 1 + 1 * (x 1).val = _
      rw [ho]; show 0 + 1 * (x 1).val = _; omega
  · iexists f; iexact Hs

theorem wp_landed {α : Type} {st : Memref sig .scVector .vmem S8x512 .f32} {hst : st.IsWhole} {sem : DmaSem sig} {n : ℕ}
    {off : Fin 2 → ℕ} {h : ∀ a, off a + S8x512.size a ≤ S65536x512.size a}
    {k : PUnit → Prog (TileE F L) α} {Q : α → sProp (MM F)} :
    iprop(wFl cf tb d L st sem n ∗ ow d L O W ∗ Transfers.MayWaits (thr d L) none O)
      ⊢ iprop((iprop(outS d L (row0 L n) (row0 L (n + 1)) (outC cf tb) ∗ sAny d L st ∗ zero d L sem ∗ ow d L O W)
            -∗ wp frame (wpE (defs₀ (F := F)) 𝒱₀ (thr d L) none) Set.univ (k ⟨⟩) Q)
          -∗ wp frame (wpE (defs₀ (F := F)) 𝒱₀ (thr d L) none) Set.univ (landed L st hst sem off h >>= k) Q) := by
  unfold wFl ow landed
  iintro ⟨Hf, ⟨%W', %hW, HO⟩, Hmw⟩ Hk
  iapply (Transfers.wp_waitLocalO EC 𝒱₀ (thr d L) none none (N := 131072) rfl) $$ [Hf HO Hmw]
  · isplitl [Hf]; · iexact Hf
    isplitl [HO]; · iexact HO
    iapply (Transfers.MayWaits.elim (.dma sem)) $$ Hmw
  iintro ⟨⟨Ho, Hs⟩, Hv, HO⟩
  iapply Hk
  isplitl [Ho]; · iexact Ho
  isplitl [Hs]; · iexact Hs
  isplitl [Hv]; · iexact Hv
  iexists _
  isplitr
  swap
  · iexact HO
  ipureintro
  intro p hp
  rcases Finset.mem_insert.mp hp with rfl | hp
  · exact .inr rfl
  · exact hW p hp

end Cert.Proof.Run
-- ==== Proof.Rounds.lean ====
/-
  From the first gathered block to the last written one: the result's rows of the tile, block by block, two buffers at a time.
-/
module

public import proofs.«01_k».proof.Proof.Steps

@[expose] public section

noncomputable section

namespace Cert.Proof.Run

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (cf : S524288.Idx → Elt F .i32) (tb : S8192x128.Idx → Elt F .f32) (hcf : ∀ x, (cf x : BitVec 32).toNat < 1024)
variable (d : Dev nD) (L : grid0.Coords) (fo : S65536x512.Idx → Elt F .f32)
variable (O : CellTallies nD τ sig (HIx 1)) (W : Waits sig (HIx 1)) (qa qb : PosShare TreeShare)

/-- Block number `n`. -/
def blk (n : ℕ) : Fin 256 := ⟨n % 256, Nat.mod_lt _ (by decide)⟩

theorem blk_val {n : ℕ} (h : n < 256) : (blk n).val = n := Nat.mod_eq_of_lt h

/-- The rows written so far, and those untouched. -/
def doneS (n : ℕ) : sProp (MM F) := outS d L (row0 L 0) (row0 L n) (outC cf tb)
def todoS (n : ℕ) : sProp (MM F) := outS d L (row0 L n) (row0 L 256) fo

omit [FloatOps F] in
theorem outS_split {a b c : ℕ} (h : a ≤ b) (h' : b ≤ c) (f : S65536x512.Idx → Elt F .f32) :
    (outS d L a c f : sProp (MM F)) ⊣⊢ iprop(outS d L a b f ∗ outS d L b c f) := by
  have e : rows a c = rows a b ∪ rows b c := by
    ext x; simp only [Finset.mem_union, mem_rows]; omega
  have hd : Disjoint (rows a b) (rows b c) := Finset.disjoint_left.mpr fun x hx hy => by rw [mem_rows] at hx hy; omega
  unfold outS
  rw [e]
  exact pointsTo_union (ℓ := outM.view.loc (thr d L)) hd

omit [FloatOps F] in
theorem todo_take {n : ℕ} (h : n < 256) :
    (todoS d L fo n : sProp (MM F)) ⊢ iprop(outS d L (row0 L n) (row0 L (n + 1)) fo ∗ todoS d L fo (n + 1)) :=
  (outS_split d L (by unfold row0; omega) (by unfold row0; omega) fo).1

omit [FloatOps F] in
theorem done_add {n : ℕ} :
    iprop(doneS cf tb d L n ∗ outS d L (row0 L n) (row0 L (n + 1)) (outC cf tb)) ⊢ (doneS cf tb d L (n + 1) : sProp (MM F)) :=
  (outS_split d L (by unfold row0; omega) (by unfold row0; omega) (outC cf tb)).2

/-- What holds before round `t`: the first buffer's next gather under way, both buffers' writes under way, the second buffer free. -/
def inv (t : ℕ) : sProp (MM F) :=
  iprop(gFl cf tb d L gaM gsA qa (blk (2 * t + 2))
    ∗ gAny d L gbM ∗ spS tb d L qb ∗ idS cf d L qb ∗ zero d L gsB
    ∗ wFl cf tb d L saM wsA (2 * t) ∗ wFl cf tb d L sbM wsB (2 * t + 1)
    ∗ doneS cf tb d L (2 * t) ∗ todoS d L fo (2 * t + 2)
    ∗ ow d L O W ∗ Transfers.MayWaits (thr d L) none O)

include hcf in
theorem wp_round (t : Fin k0_t4_loop.trips) :
    inv cf tb d L fo O W qa qb t.val ⊢ wp frame (wpE (defs₀ (F := F)) 𝒱₀ (thr d L) none) Set.univ (round L t)
      fun _ => inv cf tb d L fo O W qa qb (t.val + 1) := by
  have ht : t.val < 126 := Nat.lt_of_lt_of_le t.isLt k0_t4_abs.2.1
  have h3 : (blk (2 * t.val + 3)).val = 2 * t.val + 3 := blk_val (by omega)
  have h4 : (blk (2 * t.val + 4)).val = 2 * t.val + 4 := blk_val (by omega)
  have h2 : (blk (2 * t.val + 2)).val = 2 * t.val + 2 := blk_val (by omega)
  unfold inv round half
  rw [wp_bind]
  iintro ⟨Hga, Hgb, Hs, Hi, Hzb, Hwa, Hwb, Hd, Ht, HO, #Hmw⟩
  iapply (wp_issue cf tb hcf d L (Memref.isWhole_whole _) (blk (2 * t.val + 3))
    ((k0_off76_eq t 0).trans (by rw [h3]; show ![128 * t.val + 64 * 0 + 192] = _; congr 1; omega))) $$ [Hgb Hs Hi Hzb]
  · isplitl [Hgb]; · iexact Hgb
    isplitl [Hs]; · iexact Hs
    isplitl [Hi]; · iexact Hi
    iexact Hzb
  iintro Hgb
  iapply (wp_take cf tb d L O W) $$ [Hga HO]
  · isplitl [Hga]; · iexact Hga
    isplitl [HO]; · iexact HO
    iexact Hmw
  iintro ⟨Hga, Hs, Hi, Hza, HO⟩
  iapply (wp_landed cf tb d L O W) $$ [Hwa HO]
  · isplitl [Hwa]; · iexact Hwa
    isplitl [HO]; · iexact HO
    iexact Hmw
  iintro ⟨Ho, Hsa, Hzw, HO⟩
  ihave Hd := (done_add cf tb d L) $$ [Hd Ho]
  · isplitl [Hd]; · iexact Hd
    iexact Ho
  iapply (wp_repack cf tb d L) $$ [Hga Hsa]
  · isplitl [Hga]; · iexact Hga
    iexact Hsa
  iintro ⟨Hga, Hsa⟩
  ihave Ht := (todo_take d L fo (n := 2 * t.val + 2) (by omega)) $$ Ht
  icases Ht with ⟨Ho, Ht⟩
  iapply (wp_put cf tb d L (blk (2 * t.val + 2)) (fo := fo) ((k0_off114_eq L t).trans (by
    rw [h2]; unfold row0 wid; congr 1; omega))) $$ [Hsa Ho Hzw]
  · isplitl [Hsa]; · iexact Hsa
    isplitl [Ho]; · rw [h2]; iexact Ho
    iexact Hzw
  iintro Hwa
  rw [h2]
  iapply (wp_issue cf tb hcf d L (Memref.isWhole_whole _) (blk (2 * t.val + 4))
    ((k0_off76_eq t 1).trans (by rw [h4]; show ![128 * t.val + 64 * 1 + 192] = _; congr 1; omega))) $$ [Hga Hs Hi Hza]
  · isplitl [Hga]; · iexact Hga
    isplitl [Hs]; · iexact Hs
    isplitl [Hi]; · iexact Hi
    iexact Hza
  iintro Hga
  iapply (wp_take cf tb d L O W) $$ [Hgb HO]
  · isplitl [Hgb]; · iexact Hgb
    isplitl [HO]; · iexact HO
    iexact Hmw
  iintro ⟨Hgb, Hs, Hi, Hzb, HO⟩
  iapply (wp_landed cf tb d L O W) $$ [Hwb HO]
  · isplitl [Hwb]; · iexact Hwb
    isplitl [HO]; · iexact HO
    iexact Hmw
  iintro ⟨Ho, Hsb, Hzw, HO⟩
  ihave Hd := (done_add cf tb d L) $$ [Hd Ho]
  · isplitl [Hd]; · iexact Hd
    iexact Ho
  rw [wp_pure]
  imodintro
  iapply (wp_repack cf tb d L) $$ [Hgb Hsb]
  · isplitl [Hgb]; · iexact Hgb
    iexact Hsb
  iintro ⟨Hgb, Hsb⟩
  ihave Ht := (todo_take d L fo (n := 2 * t.val + 3) (by omega)) $$ Ht
  icases Ht with ⟨Ho, Ht⟩
  iapply (wp_put cf tb d L (blk (2 * t.val + 3)) (fo := fo) ((k0_off151_eq L t).trans (by
    rw [h3]; unfold row0 wid; congr 1; omega))) $$ [Hsb Ho Hzw]
  · isplitl [Hsb]; · iexact Hsb
    isplitl [Ho]; · rw [h3]; iexact Ho
    iexact Hzw
  iintro Hwb
  rw [h3, wp_pure]
  imodintro
  rw [show 2 * (t.val + 1) + 2 = 2 * t.val + 4 by omega, show 2 * (t.val + 1) + 1 = 2 * t.val + 3 by omega, show 2 * (t.val + 1) = 2 * t.val + 2 by omega]
  isplitl [Hga]; · iexact Hga
  isplitl [Hgb]; · iexact Hgb
  isplitl [Hs]; · iexact Hs
  isplitl [Hi]; · iexact Hi
  isplitl [Hzb]; · iexact Hzb
  isplitl [Hwa]; · iexact Hwa
  isplitl [Hwb]; · iexact Hwb
  isplitl [Hd]; · iexact Hd
  isplitl [Ht]; · iexact Ht
  isplitl [HO]; · iexact HO
  iexact Hmw

include hcf in
theorem wp_rounds {α : Type} {k : PUnit → Prog (TileE F L) α} {Q : α → sProp (MM F)} :
    inv cf tb d L fo O W qa qb 0
      ⊢ iprop((inv cf tb d L fo O W qa qb 126 -∗ wp frame (wpE (defs₀ (F := F)) 𝒱₀ (thr d L) none) Set.univ (k ⟨⟩) Q)
          -∗ wp frame (wpE (defs₀ (F := F)) 𝒱₀ (thr d L) none) Set.univ
            ((Scf.Loop.for k0_t4_loop k0_t4_ok (⟨⟩ : PUnit) fun t _ => round L t) >>= k) Q) := by
  iintro H Hk
  sl_for (fun t _ => inv cf tb d L fo O W qa qb t) $$ [H]
  · intro t _
    exact wp_round cf tb hcf d L fo O W qa qb t
  · iexact H
  iintro %_ H
  iapply Hk
  iexact H

/-- The four blocks written outside the rounds. -/
theorem off39_eq : ∀ (i : grid0.Coords) (r : Fin 4),
    k0_off39 i (k0_off39_at r) = ![4096 * (i 1).val + 2048 * (i 0).val + (![0, 8, 2032, 2040] : Fin 4 → ℕ) r, 0] := by decide +kernel

/-- What holds when the first block is gathered and the second under way. -/
def begun : sProp (MM F) :=
  iprop(gAt cf tb d L gaM (blk 0) ∗ spS tb d L qa ∗ idS cf d L qa ∗ zero d L gsA
    ∗ gFl cf tb d L gbM gsB qb (blk 1)
    ∗ sAny d L saM ∗ zero d L wsA ∗ sAny d L sbM ∗ zero d L wsB
    ∗ doneS cf tb d L 0 ∗ todoS d L fo 0
    ∗ ow d L O W ∗ Transfers.MayWaits (thr d L) none O)

/-- What holds when all but the last two blocks are written or under way: both blocks' rows gathered or under way. -/
def ending : sProp (MM F) :=
  iprop(gAt cf tb d L gaM (blk 254) ∗ spS tb d L qa ∗ idS cf d L qa ∗ zero d L gsA
    ∗ gFl cf tb d L gbM gsB qb (blk 255)
    ∗ sAny d L saM ∗ zero d L wsA ∗ wFl cf tb d L sbM wsB 253
    ∗ doneS cf tb d L 253 ∗ todoS d L fo 254
    ∗ ow d L O W ∗ Transfers.MayWaits (thr d L) none O)

/-- What holds at the end: every row of the tile's written, the buffers, shares and semaphores back. -/
def ended : sProp (MM F) :=
  iprop(gAny d L gaM ∗ spS tb d L qa ∗ idS cf d L qa ∗ zero d L gsA
    ∗ gAny d L gbM ∗ spS tb d L qb ∗ idS cf d L qb ∗ zero d L gsB
    ∗ sAny d L saM ∗ zero d L wsA ∗ sAny d L sbM ∗ zero d L wsB
    ∗ doneS cf tb d L 256 ∗ ow d L O W)

include hcf in
theorem wp_part2 : begun cf tb d L fo O W qa qb ⊢ wp frame (wpE (defs₀ (F := F)) 𝒱₀ (thr d L) none) Set.univ (part2 L)
      fun _ => ending cf tb d L fo O W qa qb := by
  unfold begun part2
  iintro ⟨Hga, Hs, Hi, Hza, Hgb, Hsa, Hzw, Hsb, Hzv, Hd, Ht, HO, #Hmw⟩
  iapply (wp_repack cf tb d L) $$ [Hga Hsa]
  · isplitl [Hga]; · iexact Hga
    iexact Hsa
  iintro ⟨Hga, Hsa⟩
  ihave Ht := (todo_take d L fo (n := 0) (by omega)) $$ Ht
  icases Ht with ⟨Ho, Ht⟩
  iapply (wp_put cf tb d L (blk 0) (fo := fo) ((off39_eq L 0).trans (by
    show ![4096 * (L 1).val + 2048 * (L 0).val + 0, 0] = ![2048 * wid L + 8 * 0, 0]; unfold wid; congr 1; omega))) $$ [Hsa Ho Hzw]
  · isplitl [Hsa]; · iexact Hsa
    isplitl [Ho]; · iexact Ho
    iexact Hzw
  iintro Hwa
  iapply (wp_issue cf tb hcf d L (Memref.isWhole_whole _) (blk 2) rfl) $$ [Hga Hs Hi Hza]
  · isplitl [Hga]; · iexact Hga
    isplitl [Hs]; · iexact Hs
    isplitl [Hi]; · iexact Hi
    iexact Hza
  iintro Hga
  iapply (wp_take cf tb d L O W) $$ [Hgb HO]
  · isplitl [Hgb]; · iexact Hgb
    isplitl [HO]; · iexact HO
    iexact Hmw
  iintro ⟨Hgb, Hs, Hi, Hzb, HO⟩
  iapply (wp_repack cf tb d L) $$ [Hgb Hsb]
  · isplitl [Hgb]; · iexact Hgb
    iexact Hsb
  iintro ⟨Hgb, Hsb⟩
  ihave Ht := (todo_take d L fo (n := 1) (by omega)) $$ Ht
  icases Ht with ⟨Ho, Ht⟩
  iapply (wp_put cf tb d L (blk 1) (fo := fo) ((off39_eq L 1).trans (by
    show ![4096 * (L 1).val + 2048 * (L 0).val + 8, 0] = ![2048 * wid L + 8 * 1, 0]; unfold wid; congr 1; omega))) $$ [Hsb Ho Hzv]
  · isplitl [Hsb]; · iexact Hsb
    isplitl [Ho]; · iexact Ho
    iexact Hzv
  iintro Hwb
  iapply (wp_rounds cf tb hcf d L fo O W qa qb) $$ [Hga Hgb Hs Hi Hzb Hwa Hwb Hd Ht HO]
  · unfold inv
    isplitl [Hga]; · iexact Hga
    isplitl [Hgb]; · iexact Hgb
    isplitl [Hs]; · iexact Hs
    isplitl [Hi]; · iexact Hi
    isplitl [Hzb]; · iexact Hzb
    isplitl [Hwa]; · iexact Hwa
    isplitl [Hwb]; · iexact Hwb
    isplitl [Hd]; · iexact Hd
    isplitl [Ht]; · iexact Ht
    isplitl [HO]; · iexact HO
    iexact Hmw
  unfold inv
  iintro ⟨Hga, Hgb, Hs, Hi, Hzb, Hwa, Hwb, Hd, Ht, HO, -⟩
  iapply (wp_issue cf tb hcf d L (Memref.isWhole_whole _) (blk 255) rfl) $$ [Hgb Hs Hi Hzb]
  · isplitl [Hgb]; · iexact Hgb
    isplitl [Hs]; · iexact Hs
    isplitl [Hi]; · iexact Hi
    iexact Hzb
  iintro Hgb
  iapply (wp_take cf tb d L O W) $$ [Hga HO]
  · isplitl [Hga]; · iexact Hga
    isplitl [HO]; · iexact HO
    iexact Hmw
  iintro ⟨Hga, Hs, Hi, Hza, HO⟩
  iapply (wp_landed cf tb d L O W) $$ [Hwa HO]
  · isplitl [Hwa]; · iexact Hwa
    isplitl [HO]; · iexact HO
    iexact Hmw
  iintro ⟨Ho, Hsa, Hzw, HO⟩
  ihave Hd := (done_add cf tb d L) $$ [Hd Ho]
  · isplitl [Hd]; · iexact Hd
    iexact Ho
  rw [wp_pure]
  imodintro
  unfold ending
  isplitl [Hga]; · iexact Hga
  isplitl [Hs]; · iexact Hs
  isplitl [Hi]; · iexact Hi
  isplitl [Hza]; · iexact Hza
  isplitl [Hgb]; · iexact Hgb
  isplitl [Hsa]; · iexact Hsa
  isplitl [Hzw]; · iexact Hzw
  isplitl [Hwb]; · iexact Hwb
  isplitl [Hd]; · iexact Hd
  isplitl [Ht]; · iexact Ht
  isplitl [HO]; · iexact HO
  iexact Hmw

/-- The program after its first two parts. -/
def tailProg (i : grid0.Coords) : Prog (TileE F i) PUnit := do
  repack i gaM saM
  put i saM (Memref.isWhole_whole _) wsA (k0_off39 i 2032#32) (k0_off39_inb i 2)
  take i gbM (Memref.isWhole_whole _) gsB
  landed i sbM (Memref.isWhole_whole _) wsB (k0_off152 i) (k0_off152_inb i)
  repack i gbM sbM
  put i sbM (Memref.isWhole_whole _) wsB (k0_off39 i 2040#32) (k0_off39_inb i 3)
  landed i saM (Memref.isWhole_whole _) wsA (k0_off152 i) (k0_off152_inb i)
  landed i sbM (Memref.isWhole_whole _) wsB (k0_off152 i) (k0_off152_inb i)
  pure ⟨⟩

theorem wp_tail : ending cf tb d L fo O W qa qb ⊢ wp frame (wpE (defs₀ (F := F)) 𝒱₀ (thr d L) none) Set.univ (tailProg L)
      fun _ => ended cf tb d L O W qa qb := by
  unfold ending tailProg
  iintro ⟨Hga, Hs, Hi, Hza, Hgb, Hsa, Hzw, Hwb, Hd, Ht, HO, #Hmw⟩
  iapply (wp_repack cf tb d L) $$ [Hga Hsa]
  · isplitl [Hga]; · iexact Hga
    iexact Hsa
  iintro ⟨Hga, Hsa⟩
  ihave Ht := (todo_take d L fo (n := 254) (by omega)) $$ Ht
  icases Ht with ⟨Ho, Ht⟩
  iapply (wp_put cf tb d L (blk 254) (fo := fo) ((off39_eq L 2).trans (by
    show ![4096 * (L 1).val + 2048 * (L 0).val + 2032, 0] = ![2048 * wid L + 8 * 254, 0]; unfold wid; congr 1; omega))) $$ [Hsa Ho Hzw]
  · isplitl [Hsa]; · iexact Hsa
    isplitl [Ho]; · iexact Ho
    iexact Hzw
  iintro Hwa
  iapply (wp_take cf tb d L O W) $$ [Hgb HO]
  · isplitl [Hgb]; · iexact Hgb
    isplitl [HO]; · iexact HO
    iexact Hmw
  iintro ⟨Hgb, Hs', Hi', Hzb, HO⟩
  iapply (wp_landed cf tb d L O W) $$ [Hwb HO]
  · isplitl [Hwb]; · iexact Hwb
    isplitl [HO]; · iexact HO
    iexact Hmw
  iintro ⟨Ho, Hsb, Hzv, HO⟩
  ihave Hd := (done_add cf tb d L) $$ [Hd Ho]
  · isplitl [Hd]; · iexact Hd
    iexact Ho
  iapply (wp_repack cf tb d L) $$ [Hgb Hsb]
  · isplitl [Hgb]; · iexact Hgb
    iexact Hsb
  iintro ⟨Hgb, Hsb⟩
  ihave Ht := (todo_take d L fo (n := 255) (by omega)) $$ Ht
  icases Ht with ⟨Ho, -⟩
  iapply (wp_put cf tb d L (blk 255) (fo := fo) ((off39_eq L 3).trans (by
    show ![4096 * (L 1).val + 2048 * (L 0).val + 2040, 0] = ![2048 * wid L + 8 * 255, 0]; unfold wid; congr 1; omega))) $$ [Hsb Ho Hzv]
  · isplitl [Hsb]; · iexact Hsb
    isplitl [Ho]; · iexact Ho
    iexact Hzv
  iintro Hwb
  iapply (wp_landed cf tb d L O W) $$ [Hwa HO]
  · isplitl [Hwa]; · iexact Hwa
    isplitl [HO]; · iexact HO
    iexact Hmw
  iintro ⟨Ho, Hsa, Hzw, HO⟩
  ihave Hd := (done_add cf tb d L (n := 254)) $$ [Hd Ho]
  · isplitl [Hd]; · iexact Hd
    iexact Ho
  iapply (wp_landed cf tb d L O W) $$ [Hwb HO]
  · isplitl [Hwb]; · iexact Hwb
    isplitl [HO]; · iexact HO
    iexact Hmw
  iintro ⟨Ho, Hsb, Hzv, HO⟩
  ihave Hd := (done_add cf tb d L (n := 255)) $$ [Hd Ho]
  · isplitl [Hd]; · iexact Hd
    iexact Ho
  rw [wp_pure]
  imodintro
  unfold ended
  isplitl [Hga]; · iexact Hga
  isplitl [Hs]; · iexact Hs
  isplitl [Hi]; · iexact Hi
  isplitl [Hza]; · iexact Hza
  isplitl [Hgb]; · iexact Hgb
  isplitl [Hs']; · iexact Hs'
  isplitl [Hi']; · iexact Hi'
  isplitl [Hzb]; · iexact Hzb
  isplitl [Hsa]; · iexact Hsa
  isplitl [Hzw]; · iexact Hzw
  isplitl [Hsb]; · iexact Hsb
  isplitl [Hzv]; · iexact Hzv
  isplitl [Hd]; · iexact Hd
  iexact HO

end Cert.Proof.Run
-- ==== Proof.Codes.lean ====
/-
  The tile's codes: the copy in, and the loop that moves each code to the table rows of its own subspace, sixteen at a time.
  And the table's copy to the core's shared memory.
-/
module

public import proofs.«01_k».proof.Proof.Rounds

@[expose] public section

noncomputable section

namespace Cert.Proof.Run

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (cf : S524288.Idx → Elt F .i32) (tb : S8192x128.Idx → Elt F .f32)
variable (d : Dev nD) (L : grid0.Coords)
variable (O : CellTallies nD τ sig (HIx 1)) (W : Waits sig (HIx 1))

/-! ## The codes moved -/

/-- Sixteen lanes' shift: lane `l` by its subspace's number of rows. -/
theorem lanes (y : S16.Idx) :
    (muli (remsi (iota .scVector S16 32 [0] iota_S16_d0_w32_scVector) (broadcast S16 8#32)) (broadcast S16 1024#32) : IVec S16 32) y
      = BitVec.ofNat 32 ((y 0).val % 8 * 1024) := by
  have h : ∀ l : Fin 16, (muli (remsi (iota .scVector S16 32 [0] iota_S16_d0_w32_scVector) (broadcast S16 8#32)) (broadcast S16 1024#32) : IVec S16 32) (fun | 0 => l)
      = BitVec.ofNat 32 (l.val % 8 * 1024) := by decide +kernel
  have e : y = (fun | 0 => y 0) := funext fun a => match a with | 0 => rfl
  exact (congrArg _ e).trans (h (y 0))

theorem moved_lanes (v : Vec F S16 .i32) (y : S16.Idx) :
    (k0_pay199 v y : BitVec 32) = (v y : BitVec 32) + BitVec.ofNat 32 ((y 0).val % 8 * 1024) := by
  unfold k0_pay199
  simp only [shapeCast_self]
  exact congrArg ((v y : BitVec 32) + ·) (lanes y)

/-- The codes with the first `n` moved. -/
def partC (n : ℕ) : S16384.Idx → Elt F .i32 := fun x => if (x 0).val < n then idxC cf L x else codesC cf L x

omit [FloatOps F] in
theorem idxC_eq (x : S16384.Idx) : (idxC cf L x : BitVec 32) = (codesC cf L x : BitVec 32) + BitVec.ofNat 32 ((x 0).val % 8 * 1024) := by
  unfold idxC codesC moved
  congr 2
  omega

theorem partC_step (t : Fin k0_t1_loop.trips) (x : S16384.Idx) :
    (idxM.access (Rect.unit (s := S16384) (k0_off2 t) S16.size (k0_off2_inb t))).write (Elt F) (partC cf L (16 * t.val))
        (k0_pay199 ((idxM.access (Rect.unit (s := S16384) (k0_off2 t) S16.size (k0_off2_inb t))).read (Elt F) (partC cf L (16 * t.val)))) Finset.univ x
      = partC cf L (16 * (t.val + 1)) x := by
  have e : k0_off2 t 0 = 16 * t.val := congrFun (k0_off2_eq t) 0
  by_cases hm : x ∈ (Rect.unit (s := S16384) (k0_off2 t) S16.size (k0_off2_inb t)).set
  · obtain ⟨y, rfl⟩ := (Rect.unit (s := S16384) (k0_off2 t) S16.size (k0_off2_inb t)).exists_idx_of_mem hm
    refine (View.read_slice_write_emb (Val := Elt F) (v := idxM.view) _ (partC cf L (16 * t.val)) _ (Finset.mem_univ y)).trans ?_
    rw [moved_lanes]
    have hy : (y 0).val < 16 := (y 0).isLt
    have e0 : ((Rect.unit (s := S16384) (k0_off2 t) S16.size (k0_off2_inb t)).idx y 0).val = 16 * t.val + (y 0).val := by
      show k0_off2 t 0 + 1 * (y 0).val = _; omega
    have h1 : ((idxM.access (Rect.unit (s := S16384) (k0_off2 t) S16.size (k0_off2_inb t))).read (Elt F) (partC cf L (16 * t.val)) y : BitVec 32)
        = codesC cf L ((Rect.unit (s := S16384) (k0_off2 t) S16.size (k0_off2_inb t)).idx y) := by
      show partC cf L (16 * t.val) _ = _
      unfold partC
      rw [if_neg]
      · rfl
      · show ¬ ((Rect.unit (s := S16384) (k0_off2 t) S16.size (k0_off2_inb t)).idx y 0).val < _; omega
    rw [h1]
    unfold partC
    rw [if_pos (by omega), idxC_eq, e0]
    congr 2
    omega
  · refine (View.read_slice_write_of_not_mem (Val := Elt F) (v := idxM.view) _ (partC cf L (16 * t.val)) _ Finset.univ (by rwa [Rect.map_emb_univ])).trans ?_
    rw [Rect.mem_set_unit] at hm
    show partC cf L (16 * t.val) x = _
    unfold partC
    have hx : ¬ (16 * t.val ≤ (x 0).val ∧ (x 0).val < 16 * t.val + 16) := by
      intro hc
      apply hm
      intro a
      match a with
      | 0 => exact ⟨by omega, show (x 0).val < k0_off2 t 0 + 16 by omega⟩
    by_cases h : (x 0).val < 16 * t.val
    · rw [if_pos h, if_pos (by omega)]
    · rw [if_neg h, if_neg (by omega)]

/-- The tile's codes' buffer, at `f`. -/
def idW (f : S16384.Idx → Elt F .i32) : sProp (MM F) := iprop(idxM.view.loc (thr d L) ↦[idxM.view.set]{fullShare} f)

theorem wp_shift (t : Fin k0_t1_loop.trips) :
    idW d L (partC cf L (16 * t.val)) ⊢ wp frame (wpE (defs₀ (F := F)) 𝒱₀ (thr d L) none) Set.univ (shift L t)
      fun _ => idW d L (partC cf L (16 * (t.val + 1))) := by
  unfold idW shift
  iintro H
  iapply (wp_load_rect 𝒱₀ (thr d L) none Set.univ (View.set_slice_subset _ _)) $$ [H]
  · iexact H
  iintro H
  iapply (wp_load_rect 𝒱₀ (thr d L) none Set.univ (View.set_slice_subset _ _)) $$ [H]
  · iexact H
  iintro H
  iapply (wp_store 𝒱₀ (thr d L) none Set.univ (View.set_slice_subset _ _)) $$ [H]
  · iexact H
  iintro H
  rw [Prog.bind, wp_pure]
  imodintro
  iapply (Entails.of_eq (pointsTo_congr fun x _ => partC_step cf L t x)) $$ H

theorem wp_shifts {α : Type} {k : PUnit → Prog (TileE F L) α} {Q : α → sProp (MM F)} :
    idW d L (codesC cf L)
      ⊢ iprop((idW d L (idxC cf L) -∗ wp frame (wpE (defs₀ (F := F)) 𝒱₀ (thr d L) none) Set.univ (k ⟨⟩) Q)
          -∗ wp frame (wpE (defs₀ (F := F)) 𝒱₀ (thr d L) none) Set.univ
            ((Scf.Loop.for k0_t1_loop k0_t1_ok (⟨⟩ : PUnit) fun t _ => shift L t) >>= k) Q) := by
  have e0 : partC cf L (16 * 0) = codesC cf L := funext fun x => if_neg (Nat.not_lt_zero _)
  have e1 : partC cf L (16 * 1024) = idxC cf L := funext fun x => if_pos (x 0).isLt
  rw [← e0, ← e1]
  iintro H Hk
  sl_for (fun t _ => idW d L (partC cf L (16 * t))) $$ [H]
  · intro t _
    exact wp_shift cf d L t
  · iexact H
  iintro %_ H
  iapply Hk
  iexact H

/-! ## The two copies in -/

/-- A share of the flat codes. -/
def cdS (q : PosShare TreeShare) : sProp (MM F) := iprop(codeM.view.loc (thr d L) ↦[Finset.univ]{q} cf)

/-- The tile's codes' buffer, at whatever. -/
def idAny : sProp (MM F) := iprop(∃ f, idxM.view.loc (thr d L) ↦[idxM.view.set]{fullShare} f)

omit [FloatOps F] in
theorem codes_read : (codesM L).view.read (Elt F) cf = codesC cf L := by
  funext x
  show cf _ = cf _
  congr 1
  funext a
  apply Fin.ext
  match a with
  | 0 =>
    show k0_off1 L 0 + 1 * (x 0).val = 16384 * wid L + (x 0).val
    rw [show k0_off1 L 0 = 32768 * (L 1).val + 16384 * (L 0).val from congrFun (k0_off1_eq L) 0]
    unfold wid
    omega

omit [FloatOps F] in
/-- What is waited for is added to what was. -/
theorem ow_insert {W' : Waits sig (HIx 1)} (sem : DmaSem sig) (hW : ∀ p ∈ W', p ∈ W ∨ p.2 = none) :
    (owes (thr d L) O (insert (SemLoc.dma sem, none) W') : sProp (MM F)) ⊢ ow d L O W := by
  unfold ow
  iintro HO
  iexists _
  isplitr
  swap
  · iexact HO
  ipureintro
  intro p hp
  rcases Finset.mem_insert.mp hp with rfl | hp
  · exact .inr rfl
  · exact hW p hp

theorem wp_fetch {α : Type} {q : PosShare TreeShare} {k : PUnit → Prog (TileE F L) α} {Q : α → sProp (MM F)} :
    iprop(cdS cf d L q ∗ idAny d L ∗ zero d L csem ∗ ow d L O W ∗ Transfers.MayWaits (thr d L) none O)
      ⊢ iprop((iprop(cdS cf d L q ∗ idW d L (codesC cf L) ∗ zero d L csem ∗ ow d L O W)
            -∗ wp frame (wpE (defs₀ (F := F)) 𝒱₀ (thr d L) none) Set.univ (k ⟨⟩) Q)
          -∗ wp frame (wpE (defs₀ (F := F)) 𝒱₀ (thr d L) none) Set.univ (fetch L >>= k) Q) := by
  unfold cdS idAny ow fetch
  rw [wp_bind]
  iintro ⟨Hc, ⟨%f, Hi⟩, Hv, ⟨%W', %hW, HO⟩, Hmw⟩ Hk
  ihave Hc := (pointsTo_split_subset (I := (codesM L).view.set) (Finset.subset_univ _)).1 $$ Hc
  icases Hc with ⟨Hc, Hr⟩
  iapply (Transfers.wp_dmaLocal EC 𝒱₀ (thr d L) none (dst := idxM) (Sd := idxM.view.set) (fd := f) none 524288 rfl (by decide) (Finset.Subset.refl _)) $$ [Hc Hi Hv]
  · isplitl [Hc]; · iexact Hc
    isplitl [Hi]; · iexact Hi
    iexact Hv
  iintro Hf
  iapply (Transfers.wp_waitLocalO EC 𝒱₀ (thr d L) none none (N := 524288) rfl) $$ [Hf HO Hmw]
  · isplitl [Hf]; · iexact Hf
    isplitl [HO]; · iexact HO
    iapply (Transfers.MayWaits.elim (.dma csem)) $$ Hmw
  iintro ⟨⟨Hi, Hc⟩, Hv, HO⟩
  rw [Prog.bind, wp_pure]
  imodintro
  iapply Hk
  isplitl [Hc Hr]
  · iapply (pointsTo_split_subset (I := (codesM L).view.set) (Finset.subset_univ _)).2
    isplitl [Hc]; · iexact Hc
    iexact Hr
  isplitl [Hi]
  · unfold idW
    rw [View.write_whole_univ, ReadAs.apply_same, codes_read]
    iexact Hi
  isplitl [Hv]; · iexact Hv
  iapply (show _ ⊢ iprop(∃ W', ⌜∀ p ∈ W', p ∈ W ∨ p.2 = none⌝ ∗ owes (thr d L) O W') from ow_insert d L O W csem hW) $$ HO

/-- A share of the padded table. -/
def tbS (q : PosShare TreeShare) : sProp (MM F) := iprop(tabM.view.loc (thr d L) ↦[tabM.view.set]{q} tb)
/-- The shared table, at whatever, and at the table. -/
def spAny : sProp (MM F) := iprop(∃ f, spM.view.loc (thr d L) ↦[spM.view.set]{fullShare} f)
def spT : sProp (MM F) := iprop(spM.view.loc (thr d L) ↦[spM.view.set]{fullShare} tb)

theorem wp_stage {α : Type} {q : PosShare TreeShare} {k : PUnit → Prog (TileE F L) α} {Q : α → sProp (MM F)} :
    iprop(tbS tb d L q ∗ spAny d L ∗ zero d L tsem ∗ ow d L O W ∗ Transfers.MayWaits (thr d L) none O)
      ⊢ iprop((iprop(tbS tb d L q ∗ spT tb d L ∗ zero d L tsem ∗ ow d L O W)
            -∗ wp frame (wpE (defs₀ (F := F)) 𝒱₀ (thr d L) none) Set.univ (k ⟨⟩) Q)
          -∗ wp frame (wpE (defs₀ (F := F)) 𝒱₀ (thr d L) none) Set.univ (stage L >>= k) Q) := by
  unfold tbS spAny ow stage
  rw [wp_bind]
  iintro ⟨Hc, ⟨%f, Hi⟩, Hv, ⟨%W', %hW, HO⟩, Hmw⟩ Hk
  iapply (Transfers.wp_dmaLocal EC 𝒱₀ (thr d L) none (dst := spM) (Sd := spM.view.set) (fd := f) none 33554432 rfl (by decide) (Finset.Subset.refl _)) $$ [Hc Hi Hv]
  · isplitl [Hc]; · iexact Hc
    isplitl [Hi]; · iexact Hi
    iexact Hv
  iintro Hf
  iapply (Transfers.wp_waitLocalO EC 𝒱₀ (thr d L) none none (N := 33554432) rfl) $$ [Hf HO Hmw]
  · isplitl [Hf]; · iexact Hf
    isplitl [HO]; · iexact HO
    iapply (Transfers.MayWaits.elim (.dma tsem)) $$ Hmw
  iintro ⟨⟨Hi, Hc⟩, Hv, HO⟩
  rw [Prog.bind, wp_pure]
  imodintro
  iapply Hk
  isplitl [Hc]; · iexact Hc
  isplitl [Hi]
  · unfold spT
    rw [View.write_whole_univ, ReadAs.apply_same]
    iexact Hi
  isplitl [Hv]; · iexact Hv
  iapply (show _ ⊢ iprop(∃ W', ⌜∀ p ∈ W', p ∈ W ∨ p.2 = none⌝ ∗ owes (thr d L) O W') from ow_insert d L O W tsem hW) $$ HO

end Cert.Proof.Run
-- ==== Proof.Barrier.lean ====
/-
  The barrier among a SparseCore's sixteen tiles, and what crosses it: the first tile, which alone has copied the table to
  the shared memory, hands each tile a sixteenth share of it.
-/
module

public import proofs.«01_k».proof.Proof.Codes

@[expose] public section

noncomputable section

namespace Cert.Proof.Run

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

theorem nSub_eq : τ.nSub = 16 := rfl

/-- A SparseCore's shared memory, as all its tiles name it. -/
abbrev shRef (c : Fin τ.nSC) : DevRef τ sig := ⟨.shared, ⟨0, by decide⟩, c⟩
abbrev shLoc (d : Dev nD) (c : Fin τ.nSC) : Loc nD τ sig := (d, shRef c)

/-- A sixteenth, one for each tile. -/
abbrev sixteenth (j : Fin 16) : PosShare TreeShare := pieceOf fullShare 16 (by decide) j
/-- A thirty-second, one for each tile of both SparseCores. -/
abbrev share32 (j : Fin 32) : PosShare TreeShare := pieceOf fullShare 32 (by decide) j

/-- A tile's barrier semaphore. -/
abbrev bcell (d : Dev nD) (c : Fin τ.nSC) (j : Fin τ.nSub) : GSem nD τ sig := (V d c j, .reg sc_bar0)

theorem bar_ne_go : (sc_bar0 : Sem sig) ≠ sc_go := by decide

def isBar (g : GSem nD τ sig) : Bool :=
  match g with
  | ((_, .scVector _ _), sm) => decide (sm = .reg sc_bar0)
  | _ => false

/-! ## The rounds -/

section Rounds

variable (ts : Dev nD → S8192x128.Idx → Elt F .f32)

/-- What an arrival at tile `j`'s semaphore brings: the first tile's, a share of the shared table; another's, nothing. -/
def bPay (g : GSem nD τ sig) (n : ℕ) : sProp (MM F) :=
  match g with
  | ((d, .scVector c j), _) => if n = 0 then iprop(shLoc d c ↦[Finset.univ]{sixteenth (Fin.cast nSub_eq j)} ts d) else iprop(emp)
  | _ => iprop(emp)

/-- One round on each barrier semaphore, of one arrival per tile. -/
def bRd : Rounds.Schedule (GSem nD τ sig) ℕ (MM F) where
  duties g r := if isBar g ∧ r = 0 then (Finset.univ : Finset (Fin τ.nSub)).image Fin.val else ∅
  amount _ _ _ := 1
  payload g _ n := bPay ts g n
  amount_pos _ _ _ _ := Nat.one_pos

instance bRd_storable (g : GSem nD τ sig) (r n : ℕ) : BI.Storable (upEmb : UEmb _ (MM F)) ((bRd ts).payload g r n) := by
  show BI.Storable upEmb (bPay ts g n)
  unfold bPay
  rcases g with ⟨⟨d, _ | c | ⟨c, i⟩⟩, sm⟩ <;> dsimp only <;> (repeat' split) <;> infer_instance

theorem duties_zero (d : Dev nD) (c : Fin τ.nSC) (j : Fin τ.nSub) :
    (bRd ts).duties (bcell d c j) 0 = (Finset.univ : Finset (Fin τ.nSub)).image Fin.val := by simp [bRd, isBar]
theorem duties_later (g : GSem nD τ sig) (r : ℕ) (hr : 1 ≤ r) : (bRd ts).duties g r = ∅ := if_neg fun h => absurd h.2 (Nat.ne_of_gt hr)
theorem mem_duties (d : Dev nD) (c : Fin τ.nSC) (j i : Fin τ.nSub) : i.val ∈ (bRd ts).duties (bcell d c j) 0 := by
  rw [duties_zero]; exact Finset.mem_image_of_mem _ (Finset.mem_univ i)
theorem expected (d : Dev nD) (c : Fin τ.nSC) (j : Fin τ.nSub) : 0 + grid0.bound 1 = (bRd ts).expect (bcell d c j) 0 := by
  unfold Rounds.Schedule.expect
  rw [duties_zero]
  show 0 + 16 = ∑ x ∈ (Finset.univ : Finset (Fin 16)).image Fin.val, 1
  rw [Finset.sum_const, Finset.card_image_of_injective _ Fin.val_injective]
  rfl

/-! ## What a tile owes the barrier, and what it is given for it -/

/-- An arrival at every tile's semaphore of its SparseCore. -/
def oxV (d : Dev nD) (c : Fin τ.nSC) : CellTallies nD τ sig (HIx 1) := ∑ j : Fin (grid0.bound 1), tallyAt (bcell d c (j.castLE hsub0)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_pos {d : Dev nD} {c : Fin τ.nSC} {g : GSem nD τ sig} {ι : HIx 1} (h : 0 < oxV d c g ι) :
    ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's means for the barrier: its SparseCore's semaphores' invariants, its place in each of their rounds, the
    credit for its own. -/
def bkit (d : Dev nD) (c : Fin τ.nSC) (i : Fin τ.nSub) : sProp (MM F) :=
  iprop((∃ κ : GSem nD τ sig → ℕ, bigSep Finset.univ fun j : Fin (grid0.bound 1) =>
      cellInv EB (bRd ts) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

end Rounds

theorem bigSep_none {I : Type} (s : Finset I) : (bigSep s fun _ => iprop(emp)) = (iprop(emp) : sProp (MM F)) := bigSep_emp_const s

/-! ## Across it -/

variable [FloatOps F] (ts : Dev nD → S8192x128.Idx → Elt F .f32) (d : Dev nD) (L : grid0.Coords)

theorem srcM_set : srcM.view.set = (Finset.univ : Finset S8192x128.Idx) := by
  refine Finset.eq_univ_of_forall fun x => ?_
  rw [show srcM.view.set = (Rect.unit (s := S8192x128) ![0, 0] S8192x128.size inb_S8192x128_S8192x128_0_0).set from View.set_slice_whole _ _,
    Rect.mem_set_unit]
  intro a
  match a with
  | 0 => exact ⟨Nat.zero_le _, by rw [show (![0, 0] : Fin 2 → ℕ) 0 = 0 from rfl, Nat.zero_add]; exact (x 0).isLt⟩
  | 1 => exact ⟨Nat.zero_le _, by rw [show (![0, 0] : Fin 2 → ℕ) 1 = 0 from rfl, Nat.zero_add]; exact (x 1).isLt⟩

/-- The tile's number in its SparseCore. -/
abbrev jL (L : grid0.Coords) : Fin 16 := ⟨(L 1).val, (L 1).isLt⟩

/-- The table in the shared memory, if the tile is the first. -/
def spIf : sProp (MM F) := if (L 1).val = 0 then spT (ts d) d L else iprop(emp)

theorem pays_intro : spIf ts d L
    ⊢ (bigSep Finset.univ fun j : Fin (grid0.bound 1) => (bRd ts).payload (bcell d (cV L) (j.castLE hsub0)) 0 (jV L).val : sProp (MM F)) := by
  unfold spIf
  by_cases h : (L 1).val = 0
  · rw [if_pos h]
    unfold spT
    rw [show (spM.view.set : Finset S8192x128.Idx) = Finset.univ from View.set_whole _]
    refine (Entails.of_eq (pointsTo_piecesOf (ℓ := shLoc d (cV L)) Finset.univ (ts d) (o := 16) (by decide) fullShare)).trans ?_
    refine SparseCore.ent (bigSep_mono fun j _ => ?_)
    show _ ⊢ bPay ts (bcell d (cV L) (j.castLE hsub0)) (jV L).val
    unfold bPay
    dsimp only
    rw [if_pos (show (jV L).val = 0 from h)]
    exact BI.Entails.refl _
  · rw [if_neg h]
    rw [show (bigSep Finset.univ fun j : Fin (grid0.bound 1) => (bRd ts).payload (bcell d (cV L) (j.castLE hsub0)) 0 (jV L).val)
      = bigSep Finset.univ fun _ : Fin (grid0.bound 1) => (iprop(emp) : sProp (MM F)) from bigSep_congr fun j _ => if_neg h, bigSep_none]

theorem pays_elim : (bigSep ((bRd ts).duties (bcell d (cV L) (jV L)) 0 \ ∅) fun n => (bRd ts).payload (bcell d (cV L) (jV L)) 0 n)
    ⊢ (spS (ts d) d L (sixteenth (jL L)) : sProp (MM F)) := by
  rw [Finset.sdiff_empty, duties_zero]
  refine (bigSep_elim (i := 0) (Finset.mem_image.mpr ⟨(⟨0, by decide⟩ : Fin τ.nSub), Finset.mem_univ _, rfl⟩)).trans ?_
  show bPay ts (bcell d (cV L) (jV L)) 0 ⊢ _
  unfold bPay spS
  dsimp only
  rw [if_pos rfl, srcM_set]
  exact BI.Entails.refl _

/-- The barrier: the tile's arrivals made, its share of the shared table received, its semaphore's one round over. -/
theorem wp_barrier {α : Type} (O : CellTallies nD τ sig (HIx 1)) (W : Waits sig (HIx 1))
    (hOlev : ∀ g ι, 0 < O g ι → 8 * (0 : Fin 1).val + 6 ≤ (K (F := F)).lev g ι)
    {k : PUnit → Prog (TileE F L) α} {Q : α → sProp (MM F)} :
    iprop(levAts (K (F := F)).L (K (F := F)).lev ∗ bkit ts d (cV L) (jV L) ∗ spIf ts d L ∗ ow d L (O + oxV d (cV L)) W)
      ⊢ iprop((iprop(spS (ts d) d L (sixteenth (jL L)) ∗ semVal (bcell d (cV L) (jV L)) 0 ∗ ow d L O (insert (SemLoc.reg sc_bar0, some 0) W))
            -∗ wp frame (wpE (defs₀ (F := F)) 𝒱₀ (thr d L) none) Set.univ (k ⟨⟩) Q)
          -∗ wp frame (wpE (defs₀ (F := F)) 𝒱₀ (thr d L) none) Set.univ (SparseCore.subcoreBarrier sc_bar0 (grid0.bound 1) hsub0 >>= k) Q) := by
  unfold bkit ow
  iintro ⟨#Hlv, ⟨⟨%κ, #Hinv⟩, Htoks, #Hrch, Hat, Hcred⟩, Hsp, %W', %hW, HO⟩ Hk
  ihave Hpays := (pays_intro ts d L) $$ Hsp
  iapply (SparseCore.wp_subcoreBarrier 𝒱₀ none EB (bRd ts) d (sc := cV L) (i := jV L) sc_bar0 (grid0.bound 1) hsub0 (L 1) rfl κ (fun _ => 0) (jV L).val
      (fun j => mem_duties ts d _ _ _) (fun _ => rfl) (expected ts d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr d L) 3 (fun p hp => by
        rw [Finset.mem_singleton] at hp
        subst hp
        show (K (F := F)).lev (bcell d (cV L) (jV L)) (some 0) ≤ 3
        rw [(K (F := F)).lev_V_reg d _ _ (show (sc_bar0 : Sem sig) ≠ (K (F := F)).go from bar_ne_go)]
        exact le_rfl)
      (fun g ι hg => lt_of_lt_of_le (by decide) (hOlev g ι hg)))
    iexact Hlv
  iintro ⟨HO, Hat, -, Hgot⟩
  imod (Rounds.cell_close EB (bRd ts) (g := bcell d (cV L) (jV L)) (Set.mem_univ (κ _)) (fun h => h) (duties_later ts _)) $$ [Hat] with Hbar
  · isplitr
    · iapply (SparseCore.ent (bigSep_elim (Φ := fun j : Fin (grid0.bound 1) =>
        (cellInv EB (bRd ts) (κ (bcell d (cV L) (j.castLE hsub0))) (bcell d (cV L) (j.castLE hsub0)) : sProp (MM F))) (Finset.mem_univ (L 1))))
      iexact Hinv
    · iexact Hat
  ihave Hs := (pays_elim ts d L) $$ Hgot
  iapply Hk
  isplitl [Hs]; · iexact Hs
  isplitl [Hbar]; · iexact Hbar
  iexists _
  isplitr
  swap
  · iexact HO
  ipureintro
  intro p hp
  rcases Finset.mem_insert.mp hp with rfl | hp
  · exact .inl (Finset.mem_insert_self _ _)
  · exact (hW p hp).imp (Finset.mem_insert_of_mem ·) id

end Cert.Proof.Run
-- ==== Proof.Tile.lean ====
/-
  A tile's whole program, from what the launch gives it to what it hands back.
-/
module

public import proofs.«01_k».proof.Proof.Barrier

@[expose] public section

noncomputable section

namespace Cert.Proof.Run

open Cert.Kernel Cert.Kernel.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (cs : Dev nD → S524288.Idx → Elt F .i32) (ts : Dev nD → S8192x128.Idx → Elt F .f32) (os : Dev nD → S65536x512.Idx → Elt F .f32)
variable (d : Dev nD) (L : grid0.Coords)

/-! ## The tile's own buffers and semaphores -/

/-- One of the tile's own buffers, at whatever. -/
abbrev bufAny (b : Ref sig .scVector) : sProp (MM F) := iprop(∃ f, (thr d L).loc b ↦{fullShare} f)

abbrev own (b : Ref sig .scVector) : DevRef τ sig := (Proc.scVector (cV L) (jV L)).devRef b
abbrev dcell (sem : DmaSem sig) : GSem nD τ sig := (thr d L, .dma sem)

/-- The tile's own buffers that the program doesn't name. -/
abbrev otherRefs : Finset (DevRef τ sig) :=
  (((((ownRefs (τ := τ) (.scVector (cV L) (jV L))).erase (own L cc0_scratch0)).erase (own L cc0_scratch1)).erase (own L cc0_scratch2)).erase
    (own L cc0_scratch3)).erase (own L cc0_scratch4)
/-- Its own semaphores likewise. -/
abbrev otherSems : Finset (GSem nD τ sig) :=
  ((((((ownCells (thr d L)).erase (dcell d L gsA)).erase (dcell d L gsB)).erase (dcell d L wsA)).erase (dcell d L wsB)).erase
    (dcell d L tsem)).erase (dcell d L csem)

omit [FloatOps F] in
theorem own_ne {b b' : Ref sig .scVector} (h : b ≠ b') : own L b ≠ own L b' := fun e => h (Proc.devRef_injective _ e)
omit [FloatOps F] in
theorem dcell_ne {s s' : DmaSem sig} (h : s ≠ s') : dcell d L s ≠ dcell d L s' := fun e => h (SemLoc.dma.inj (Prod.mk.inj e).2)

omit [FloatOps F] in
theorem own_mem (b : Ref sig .scVector) (h : (own L b).owner = .proc (.scVector (cV L) (jV L))) :
    own L b ∈ ownRefs (τ := τ) (.scVector (cV L) (jV L)) :=
  SparseCore.Cfg.mem_ownRefs_of_owner (p := Proc.scVector (cV L) (jV L)) (b := own L b) h

omit [FloatOps F] in
theorem ownBufs_eq : (ownBufs (thr d L) : sProp (MM F))
    = iprop(bufAny d L cc0_scratch0 ∗ bufAny d L cc0_scratch1 ∗ bufAny d L cc0_scratch2 ∗ bufAny d L cc0_scratch3 ∗ bufAny d L cc0_scratch4
        ∗ bigSep (otherRefs L) fun b => iprop(∃ f, ((d, b) : Loc nD τ sig) ↦{fullShare} f)) := by
  unfold SparseCore.Cfg.ownBufs otherRefs
  have n {b b' : Ref sig .scVector} (h : b ≠ b') := own_ne L h
  rw [SparseCore.bigSep_erase' (i := own L cc0_scratch0) (own_mem L _ rfl),
    SparseCore.bigSep_erase' (i := own L cc0_scratch1) (Finset.mem_erase.mpr ⟨n (by decide), own_mem L _ rfl⟩),
    SparseCore.bigSep_erase' (i := own L cc0_scratch2) (Finset.mem_erase.mpr ⟨n (by decide), Finset.mem_erase.mpr ⟨n (by decide), own_mem L _ rfl⟩⟩),
    SparseCore.bigSep_erase' (i := own L cc0_scratch3) (Finset.mem_erase.mpr ⟨n (by decide), Finset.mem_erase.mpr ⟨n (by decide),
      Finset.mem_erase.mpr ⟨n (by decide), own_mem L _ rfl⟩⟩⟩),
    SparseCore.bigSep_erase' (i := own L cc0_scratch4) (Finset.mem_erase.mpr ⟨n (by decide), Finset.mem_erase.mpr ⟨n (by decide),
      Finset.mem_erase.mpr ⟨n (by decide), Finset.mem_erase.mpr ⟨n (by decide), own_mem L _ rfl⟩⟩⟩⟩)]

omit [FloatOps F] in
theorem dcell_mem (sem : DmaSem sig) (h : (SemLoc.dma sem : SemLoc sig).isScoped .scVector = true) : dcell d L sem ∈ ownCells (thr d L) :=
  mem_ownCells.mpr ⟨rfl, h⟩

omit [FloatOps F] in
theorem ownSems_eq : (ownSems0 (thr d L) : sProp (MM F))
    = iprop(zero d L gsA ∗ zero d L gsB ∗ zero d L wsA ∗ zero d L wsB ∗ zero d L tsem ∗ zero d L csem
        ∗ bigSep (otherSems d L) fun g => semVal g 0) := by
  unfold SparseCore.Cfg.ownSems0 otherSems zero
  have n {s s' : DmaSem sig} (h : s ≠ s') := dcell_ne d L h
  rw [SparseCore.bigSep_erase' (i := dcell d L gsA) (dcell_mem d L _ (by decide)),
    SparseCore.bigSep_erase' (i := dcell d L gsB) (Finset.mem_erase.mpr ⟨n (by decide), dcell_mem d L _ (by decide)⟩),
    SparseCore.bigSep_erase' (i := dcell d L wsA) (Finset.mem_erase.mpr ⟨n (by decide), Finset.mem_erase.mpr ⟨n (by decide), dcell_mem d L _ (by decide)⟩⟩),
    SparseCore.bigSep_erase' (i := dcell d L wsB) (Finset.mem_erase.mpr ⟨n (by decide), Finset.mem_erase.mpr ⟨n (by decide),
      Finset.mem_erase.mpr ⟨n (by decide), dcell_mem d L _ (by decide)⟩⟩⟩),
    SparseCore.bigSep_erase' (i := dcell d L tsem) (Finset.mem_erase.mpr ⟨n (by decide), Finset.mem_erase.mpr ⟨n (by decide),
      Finset.mem_erase.mpr ⟨n (by decide), Finset.mem_erase.mpr ⟨n (by decide), dcell_mem d L _ (by decide)⟩⟩⟩⟩),
    SparseCore.bigSep_erase' (i := dcell d L csem) (Finset.mem_erase.mpr ⟨n (by decide), Finset.mem_erase.mpr ⟨n (by decide),
      Finset.mem_erase.mpr ⟨n (by decide), Finset.mem_erase.mpr ⟨n (by decide), Finset.mem_erase.mpr ⟨n (by decide), dcell_mem d L _ (by decide)⟩⟩⟩⟩⟩)]

/-! ## What the tile takes and brings back -/

/-- The tile's share of the codes and of the table. -/
def given : sProp (MM F) := iprop(cdS (cs d) d L (share32 ⟨wid L, wid_lt L⟩) ∗ tbS (ts d) d L (share32 ⟨wid L, wid_lt L⟩))

/-- The shared memory, if the tile is its SparseCore's first. -/
def spFirst : sProp (MM F) := if (L 1).val = 0 then spAny d L else iprop(emp)

def goS : sProp (MM F) := iprop(given cs ts d L ∗ todoS d L (os d) 0 ∗ spFirst d L)

def tdS : sProp (MM F) :=
  iprop((given cs ts d L ∗ doneS (cs d) (ts d) d L 256 ∗ spS (ts d) d L (sixteenth (jL L))) ∗ semVal (bcell d (cV L) (jV L)) 0)

/-! ## The first part -/

/-- The pieces in which the two gathers read the shared table and the codes. -/
abbrev spA : PosShare TreeShare := (sixteenth (jL L)).left
abbrev spB : PosShare TreeShare := (sixteenth (jL L)).right

theorem spS_halves (tb : S8192x128.Idx → Elt F .f32) (q : PosShare TreeShare) :
    (spS tb d L q : sProp (MM F)) ⊣⊢ iprop(spS tb d L q.left ∗ spS tb d L q.right) := pointsTo_share (PosShare.mem_left_op_right q)

theorem idS_halves (cf : S524288.Idx → Elt F .i32) (q : PosShare TreeShare) :
    (idS cf d L q : sProp (MM F)) ⊣⊢ iprop(idS cf d L q.left ∗ idS cf d L q.right) := pointsTo_share (PosShare.mem_left_op_right q)

/-- What is left of the codes beside the gathers' shares of them, which are of the size of those of the shared table. -/
def idRest (cf : S524288.Idx → Elt F .i32) : sProp (MM F) :=
  bigSep (Finset.univ.erase (jL L)) fun j => idxM.view.loc (thr d L) ↦[Finset.univ]{sixteenth j} idxC cf L

/-- The tile's codes are the two gathers' shares and the rest. -/
theorem idW_shares (cf : S524288.Idx → Elt F .i32) :
    (idW d L (idxC cf L) : sProp (MM F)) = iprop(idS cf d L (sixteenth (jL L)) ∗ idRest d L cf) := by
  unfold idW idS idRest
  rw [show (idxM.view.set : Finset S16384.Idx) = Finset.univ from View.set_whole _]
  exact (pointsTo_piecesOf (ℓ := idxM.view.loc (thr d L)) Finset.univ (idxC cf L) (o := 16) (by decide) fullShare).trans
    (SparseCore.bigSep_erase' (Finset.mem_univ (jL L)))

/-- A program's run used where a program is to be run. -/
theorem wp_use {α : Type} {p : Prog (TileE F L) α} {P : sProp (MM F)} {R Q : α → sProp (MM F)}
    (h : P ⊢ wp frame (wpE (defs₀ (F := F)) 𝒱₀ (thr d L) none) Set.univ p R) :
    P ⊢ iprop((∀ a, R a -∗ Q a) -∗ wp frame (wpE (defs₀ (F := F)) 𝒱₀ (thr d L) none) Set.univ p Q) :=
  h.trans (wp_wand _ _ _)

/-- Likewise where one is to be run before another. -/
theorem wp_seq {α β : Type} {p : Prog (TileE F L) α} {k : α → Prog (TileE F L) β} {P : sProp (MM F)} {R : α → sProp (MM F)} {Q : β → sProp (MM F)}
    (h : P ⊢ wp frame (wpE (defs₀ (F := F)) 𝒱₀ (thr d L) none) Set.univ p R) :
    P ⊢ iprop((∀ a, R a -∗ wp frame (wpE (defs₀ (F := F)) 𝒱₀ (thr d L) none) Set.univ (k a) Q)
      -∗ wp frame (wpE (defs₀ (F := F)) 𝒱₀ (thr d L) none) Set.univ (p >>= k) Q) := by
  rw [wp_bind]
  exact wp_use d L h

theorem first_iff : ∀ s : Fin 16, (Scalar.cmpi .ne (Scalar.extui (Scalar.cmpi .eq (BitVec.ofNat 32 s.val) 0#32) : BitVec 32) 0#32 = 1#1) ↔ s.val = 0 := by
  decide +kernel

variable (hcs : ∀ d x, (cs d x : BitVec 32).toNat < 1024)
variable (O : CellTallies nD τ sig (HIx 1)) (W : Waits sig (HIx 1))

/-- What the first part takes after the table is in place. -/
def before' : sProp (MM F) :=
  iprop(levAts (K (F := F)).L (K (F := F)).lev ∗ bkit ts d (cV L) (jV L) ∗ cdS (cs d) d L (share32 ⟨wid L, wid_lt L⟩) ∗ idAny d L ∗ zero d L csem
    ∗ spIf ts d L ∗ gAny d L gaM ∗ gAny d L gbM ∗ zero d L gsA ∗ zero d L gsB ∗ ow d L (O + oxV d (cV L)) W)

/-- What it leaves: the first block gathered, the second under way. -/
def after' : sProp (MM F) :=
  iprop(cdS (cs d) d L (share32 ⟨wid L, wid_lt L⟩) ∗ zero d L csem ∗ semVal (bcell d (cV L) (jV L)) 0
    ∗ gAt (cs d) (ts d) d L gaM (blk 0) ∗ spS (ts d) d L (spA L) ∗ idS (cs d) d L (spA L) ∗ zero d L gsA
    ∗ gFl (cs d) (ts d) d L gbM gsB (spB L) (blk 1) ∗ idRest d L (cs d)
    ∗ ow d L O (insert (SemLoc.reg sc_bar0, some 0) W))

include hcs in
theorem wp_part1' (hO : ∀ g, O g none = 0) (hOlev : ∀ g ι, 0 < O g ι → 8 * (0 : Fin 1).val + 6 ≤ (K (F := F)).lev g ι) :
    before' cs ts d L O W ⊢ wp frame (wpE (defs₀ (F := F)) 𝒱₀ (thr d L) none) Set.univ (part1' L) fun _ => after' cs ts d L O W := by
  have hO' : ∀ g, (O + oxV d (cV L)) g none = 0 := fun g => by rw [Pi.add_apply, Finsupp.add_apply, hO g, oxV_none]
  unfold before' part1'
  iintro ⟨#Hlv, Hkit, Hcd, Hid, Hzc, Hsp, Hga, Hgb, Hza, Hzb, HO⟩
  ihave #Hmw1 := (show levAts (K (F := F)).L (K (F := F)).lev ⊢ Transfers.MayWaits (thr d L) none (O + oxV d (cV L)) from
    (K (F := F)).mayWaits_none (thr := thr d L) hO') $$ Hlv
  ihave #Hmw2 := (show levAts (K (F := F)).L (K (F := F)).lev ⊢ Transfers.MayWaits (thr d L) none O from
    (K (F := F)).mayWaits_none (thr := thr d L) hO) $$ Hlv
  iapply (wp_fetch (cs d) d L (O + oxV d (cV L)) W) $$ [Hcd Hid Hzc HO]
  · isplitl [Hcd]; · iexact Hcd
    isplitl [Hid]; · iexact Hid
    isplitl [Hzc]; · iexact Hzc
    isplitl [HO]; · iexact HO
    iexact Hmw1
  iintro ⟨Hcd, Hid, Hzc, HO⟩
  iapply (wp_shifts (cs d) d L) $$ [Hid]
  · iexact Hid
  iintro Hid
  iapply (wp_barrier ts d L O W hOlev) $$ [Hkit Hsp HO]
  · isplitr; · iexact Hlv
    isplitl [Hkit]; · iexact Hkit
    isplitl [Hsp]; · iexact Hsp
    iexact HO
  iintro ⟨Hs, Hbar, HO⟩
  ihave Hs := (spS_halves d L (ts d) _).1 $$ Hs
  icases Hs with ⟨Hs, Ht⟩
  ihave Hid := (Entails.of_eq (idW_shares d L (cs d))) $$ Hid
  icases Hid with ⟨Hi, Hrest⟩
  ihave Hi := (idS_halves d L (cs d) _).1 $$ Hi
  icases Hi with ⟨Hi, Hj⟩
  iapply (wp_issue (cs d) (ts d) (hcs d) d L (Memref.isWhole_whole _) (blk 0) rfl) $$ [Hga Hs Hi Hza]
  · isplitl [Hga]; · iexact Hga
    isplitl [Hs]; · iexact Hs
    isplitl [Hi]; · iexact Hi
    iexact Hza
  iintro Hfa
  iapply (wp_issue (cs d) (ts d) (hcs d) d L (Memref.isWhole_whole _) (blk 1) rfl) $$ [Hgb Ht Hj Hzb]
  · isplitl [Hgb]; · iexact Hgb
    isplitl [Ht]; · iexact Ht
    isplitl [Hj]; · iexact Hj
    iexact Hzb
  iintro Hfb
  iapply (wp_take (cs d) (ts d) d L O (insert (SemLoc.reg sc_bar0, some 0) W)) $$ [Hfa HO]
  · isplitl [Hfa]; · iexact Hfa
    isplitl [HO]; · iexact HO
    iexact Hmw2
  iintro ⟨Hga, Hs, Hi, Hza, HO⟩
  rw [wp_pure]
  imodintro
  unfold after'
  isplitl [Hcd]; · iexact Hcd
  isplitl [Hzc]; · iexact Hzc
  isplitl [Hbar]; · iexact Hbar
  isplitl [Hga]; · iexact Hga
  isplitl [Hs]; · iexact Hs
  isplitl [Hi]; · iexact Hi
  isplitl [Hza]; · iexact Hza
  isplitl [Hfb]; · iexact Hfb
  isplitl [Hrest]; · iexact Hrest
  iexact HO

/-- The whole first part: the table put in place by the first tile, then the rest. -/
def before : sProp (MM F) :=
  iprop(levAts (K (F := F)).L (K (F := F)).lev ∗ bkit ts d (cV L) (jV L) ∗ given cs ts d L ∗ idAny d L ∗ zero d L csem
    ∗ spFirst d L ∗ zero d L tsem ∗ gAny d L gaM ∗ gAny d L gbM ∗ zero d L gsA ∗ zero d L gsB ∗ ow d L (O + oxV d (cV L)) W)

def after : sProp (MM F) := iprop(tbS (ts d) d L (share32 ⟨wid L, wid_lt L⟩) ∗ zero d L tsem ∗ after' cs ts d L O W)

include hcs in
theorem wp_part1 (hO : ∀ g, O g none = 0) (hOlev : ∀ g ι, 0 < O g ι → 8 * (0 : Fin 1).val + 6 ≤ (K (F := F)).lev g ι) :
    before cs ts d L O W ⊢ wp frame (wpE (defs₀ (F := F)) 𝒱₀ (thr d L) none) Set.univ (part1 L) fun _ => after cs ts d L O W := by
  have hO' : ∀ g, (O + oxV d (cV L)) g none = 0 := fun g => by rw [Pi.add_apply, Finsupp.add_apply, hO g, oxV_none]
  have hpart := wp_part1' cs ts d L hcs O W hO hOlev
  unfold before given part1 spFirst
  by_cases h : (L 1).val = 0
  · rw [if_pos h, dif_pos ((first_iff (jL L)).mpr h)]
    iintro ⟨#Hlv, Hkit, ⟨Hcd, Htb⟩, Hid, Hzc, Hsp, Hzt, Hga, Hgb, Hza, Hzb, HO⟩
    ihave #Hmw1 := (show levAts (K (F := F)).L (K (F := F)).lev ⊢ Transfers.MayWaits (thr d L) none (O + oxV d (cV L)) from
      (K (F := F)).mayWaits_none (thr := thr d L) hO') $$ Hlv
    iapply (wp_stage (ts d) d L (O + oxV d (cV L)) W) $$ [Htb Hsp Hzt HO]
    · isplitl [Htb]; · iexact Htb
      isplitl [Hsp]; · iexact Hsp
      isplitl [Hzt]; · iexact Hzt
      isplitl [HO]; · iexact HO
      iexact Hmw1
    iintro ⟨Htb, Hsp, Hzt, HO⟩
    iapply (wp_use d L hpart) $$ [Hkit Hcd Hid Hzc Hsp Hga Hgb Hza Hzb HO]
    · unfold before' spIf
      rw [if_pos h]
      isplitr; · iexact Hlv
      isplitl [Hkit]; · iexact Hkit
      isplitl [Hcd]; · iexact Hcd
      isplitl [Hid]; · iexact Hid
      isplitl [Hzc]; · iexact Hzc
      isplitl [Hsp]; · iexact Hsp
      isplitl [Hga]; · iexact Hga
      isplitl [Hgb]; · iexact Hgb
      isplitl [Hza]; · iexact Hza
      isplitl [Hzb]; · iexact Hzb
      iexact HO
    iintro %_ Ha
    unfold after
    isplitl [Htb]; · iexact Htb
    isplitl [Hzt]; · iexact Hzt
    iexact Ha
  · rw [if_neg h, dif_neg (fun e => h ((first_iff (jL L)).mp e))]
    iintro ⟨#Hlv, Hkit, ⟨Hcd, Htb⟩, Hid, Hzc, Hsp, Hzt, Hga, Hgb, Hza, Hzb, HO⟩
    iapply (wp_use d L hpart) $$ [Hkit Hcd Hid Hzc Hsp Hga Hgb Hza Hzb HO]
    · unfold before' spIf
      rw [if_neg h]
      isplitr; · iexact Hlv
      isplitl [Hkit]; · iexact Hkit
      isplitl [Hcd]; · iexact Hcd
      isplitl [Hid]; · iexact Hid
      isplitl [Hzc]; · iexact Hzc
      isplitl [Hsp]; · iexact Hsp
      isplitl [Hga]; · iexact Hga
      isplitl [Hgb]; · iexact Hgb
      isplitl [Hza]; · iexact Hza
      isplitl [Hzb]; · iexact Hzb
      iexact HO
    iintro %_ Ha
    unfold after
    isplitl [Htb]; · iexact Htb
    isplitl [Hzt]; · iexact Hzt
    iexact Ha

/-! ## The whole -/

omit [FloatOps F] in
/-- Nothing written and all to write is the tile's rows as they were. -/
theorem doneS_zero (cf : S524288.Idx → Elt F .i32) (tb : S8192x128.Idx → Elt F .f32) : (iprop(emp) : sProp (MM F)) ⊢ doneS cf tb d L 0 := by
  unfold doneS outS
  rw [show rows (row0 L 0) (row0 L 0) = ∅ from Finset.eq_empty_of_forall_notMem fun x hx => by rw [mem_rows] at hx; omega]
  exact Entails.of_eq pointsTo_empty.symm

/-- What is awaited in the end: what was, the barrier, and the tile's own copies. -/
theorem ow_end : ow d L O (insert (SemLoc.reg sc_bar0, some 0) W)
    ⊢ (iprop(∃ W', ⌜∀ p ∈ W', p ∈ W ∨ p.2 = none ∨ p.2 = some (0 : Fin 1)⌝ ∗ owes (thr d L) O W') : sProp (MM F)) := by
  unfold ow
  iintro ⟨%W', %hW, HO⟩
  iexists _
  isplitr
  swap
  · iexact HO
  ipureintro
  intro p hp
  rcases hW p hp with hp | hp
  · rcases Finset.mem_insert.mp hp with rfl | hp
    · exact .inr (.inr rfl)
    · exact .inl hp
  · exact .inr (.inl hp)

omit [FloatOps F] in
theorem buf_whole (b : Ref sig .scVector) :
    bufAny d L b = (iprop(∃ f, (Memref.whole b).view.loc (thr d L) ↦[(Memref.whole b).view.set]{fullShare} f) : sProp (MM F)) := by
  unfold bufAny
  rw [show (Memref.whole b).view.set = Finset.univ from View.set_whole _]

omit [FloatOps F] in
theorem buf_id : (bufAny d L cc0_scratch0 : sProp (MM F)) = idAny d L := buf_whole d L cc0_scratch0
omit [FloatOps F] in
theorem buf_ga : (bufAny d L cc0_scratch1 : sProp (MM F)) = gAny d L gaM := buf_whole d L cc0_scratch1
omit [FloatOps F] in
theorem buf_gb : (bufAny d L cc0_scratch2 : sProp (MM F)) = gAny d L gbM := buf_whole d L cc0_scratch2
omit [FloatOps F] in
theorem buf_sa : (bufAny d L cc0_scratch3 : sProp (MM F)) = sAny d L saM := buf_whole d L cc0_scratch3
omit [FloatOps F] in
theorem buf_sb : (bufAny d L cc0_scratch4 : sProp (MM F)) = sAny d L sbM := buf_whole d L cc0_scratch4

/-- The tile's codes, given back. -/
theorem id_back (cf : S524288.Idx → Elt F .i32) :
    iprop(idS cf d L (spA L) ∗ idS cf d L (spB L) ∗ idRest d L cf) ⊢ (idAny d L : sProp (MM F)) := by
  iintro ⟨Hi, Hj, Hr⟩
  ihave H := (Entails.of_eq (idW_shares d L cf).symm) $$ [Hi Hj Hr]
  · isplitl [Hi Hj]
    · iapply (idS_halves d L cf (sixteenth (jL L))).2
      isplitl [Hi]; · iexact Hi
      iexact Hj
    iexact Hr
  unfold idW idAny
  iexists _
  iexact H

include hcs in
set_option maxHeartbeats 1000000 in
theorem tile_body (hF : (K (F := F)).Facts) (hO : ∀ g, O g none = 0)
    (hOlev : ∀ g ι, 0 < O g ι → 8 * (0 : Fin 1).val + 6 ≤ (K (F := F)).lev g ι) :
    iprop(levAts (K (F := F)).L (K (F := F)).lev ∗ bkit ts d (cV L) (jV L) ∗ goS cs ts os d L
        ∗ scopedBufs (thr d L) ∗ scopedSems0 (thr d L) ∗ owes (thr d L) (O + oxV d (cV L)) W)
      ⊢ wp frame (wpE (defs₀ (F := F)) 𝒱₀ (thr d L) none) Set.univ (tileProg L)
          fun _ => iprop(tdS cs ts d L ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems_eq, ownBufs_eq,
    buf_id, buf_ga, buf_gb, buf_sa, buf_sb]
  unfold goS
  show _ ⊢ wp _ _ _ (part1 L >>= fun _ => part2 L >>= fun _ => tailProg L) _
  iintro ⟨#Hlv, Hkit, ⟨Hgv, Hout, Hsp⟩, ⟨Hid, Hga, Hgb, Hsa, Hsb, Hbufs⟩, ⟨Hza, Hzb, Hwa, Hwb, Hzt, Hzc, Hsems⟩, HO⟩
  ihave #Hmw := (show levAts (K (F := F)).L (K (F := F)).lev ⊢ Transfers.MayWaits (thr d L) none O from
    (K (F := F)).mayWaits_none (thr := thr d L) hO) $$ Hlv
  iapply (wp_seq d L (wp_part1 cs ts d L hcs O W hO hOlev)) $$ [Hkit Hgv Hid Hzc Hsp Hzt Hga Hgb Hza Hzb HO]
  · unfold before
    isplitr; · iexact Hlv
    isplitl [Hkit]; · iexact Hkit
    isplitl [Hgv]; · iexact Hgv
    isplitl [Hid]; · iexact Hid
    isplitl [Hzc]; · iexact Hzc
    isplitl [Hsp]; · iexact Hsp
    isplitl [Hzt]; · iexact Hzt
    isplitl [Hga]; · iexact Hga
    isplitl [Hgb]; · iexact Hgb
    isplitl [Hza]; · iexact Hza
    isplitl [Hzb]; · iexact Hzb
    unfold ow
    iexists _
    isplitr
    swap
    · iexact HO
    ipureintro
    exact fun p hp => .inl hp
  iintro %_ Ha
  unfold after after'
  icases Ha with ⟨Htb, Hzt, Hcd, Hzc, Hbar, Hga, Hs, Hi, Hza, Hfb, Hrest, HO⟩
  iapply (wp_seq d L (wp_part2 (cs d) (ts d) (hcs d) d L (os d) O (insert (SemLoc.reg sc_bar0, some 0) W) (spA L) (spB L)))
    $$ [Hga Hs Hi Hza Hfb Hsa Hwa Hsb Hwb Hout HO]
  · unfold begun
    isplitl [Hga]; · iexact Hga
    isplitl [Hs]; · iexact Hs
    isplitl [Hi]; · iexact Hi
    isplitl [Hza]; · iexact Hza
    isplitl [Hfb]; · iexact Hfb
    isplitl [Hsa]; · iexact Hsa
    isplitl [Hwa]; · iexact Hwa
    isplitl [Hsb]; · iexact Hsb
    isplitl [Hwb]; · iexact Hwb
    isplitr; · iapply (doneS_zero d L (cs d) (ts d)); iempintro
    isplitl [Hout]; · iexact Hout
    isplitl [HO]; · iexact HO
    iexact Hmw
  iintro %_ Ha
  iapply (wp_use d L (wp_tail (cs d) (ts d) d L (os d) O (insert (SemLoc.reg sc_bar0, some 0) W) (spA L) (spB L))) $$ [Ha]
  · iexact Ha
  iintro %_ Ha
  unfold ended
  icases Ha with ⟨Hga, Hs, Hi, Hza, Hgb, Ht, Hj, Hzb, Hsa, Hwa, Hsb, Hwb, Hdone, HO⟩
  isplitl [Htb Hcd Hbar Hs Ht Hdone]
  · unfold tdS given
    isplitr [Hbar]
    · isplitl [Htb Hcd]
      · isplitl [Hcd]; · iexact Hcd
        iexact Htb
      isplitl [Hdone]; · iexact Hdone
      iapply (spS_halves d L (ts d) (sixteenth (jL L))).2
      isplitl [Hs]; · iexact Hs
      iexact Ht
    iexact Hbar
  isplitl [Hi Hj Hrest Hga Hgb Hsa Hsb Hbufs]
  · isplitl [Hi Hj Hrest]
    · iapply (id_back d L (cs d))
      isplitl [Hi]; · iexact Hi
      isplitl [Hj]; · iexact Hj
      iexact Hrest
    isplitl [Hga]; · iexact Hga
    isplitl [Hgb]; · iexact Hgb
    isplitl [Hsa]; · iexact Hsa
    isplitl [Hsb]; · iexact Hsb
    iexact Hbufs
  isplitl [Hza Hzb Hwa Hwb Hzt Hzc Hsems]
  · isplitl [Hza]; · iexact Hza
    isplitl [Hzb]; · iexact Hzb
    isplitl [Hwa]; · iexact Hwa
    isplitl [Hwb]; · iexact Hwb
    isplitl [Hzt]; · iexact Hzt
    isplitl [Hzc]; · iexact Hzc
    iexact Hsems
  iapply (ow_end d L O W) $$ HO

end Cert.Proof.Run
-- ==== Proof.Pay.lean ====
/-
  What the launch's handshakes carry: to each SparseCore its tiles' shares of the codes and the table and their rows of
  the result, back the same with the rows decoded; and that each tile meets its part.
-/
module

public import proofs.«01_k».proof.Proof.Tile

@[expose] public section

noncomputable section

namespace Cert.Proof.Run

open Cert.Kernel Cert.Kernel.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The tile of SparseCore `c` at place `s`. -/
def coordsV (c : Fin (grid0.bound 0)) (s : Fin (grid0.bound 1)) : grid0.Coords :=
  fun | 0 => c | 1 => s | ⟨_ + 2, h⟩ => absurd h (Nat.not_lt.2 (Nat.le_add_left _ _))

variable (cs : Dev nD → S524288.Idx → Elt F .i32) (ts : Dev nD → S8192x128.Idx → Elt F .f32) (os : Dev nD → S65536x512.Idx → Elt F .f32)

/-- One tile's part of what its SparseCore is given. -/
def stL (d : Dev nD) (L : grid0.Coords) : sProp (MM F) := iprop(given cs ts d L ∗ todoS d L (os d) 0)
/-- One tile's part of what its SparseCore brings back. -/
def dnL (d : Dev nD) (L : grid0.Coords) : sProp (MM F) :=
  iprop((given cs ts d L ∗ doneS (cs d) (ts d) d L 256) ∗ semVal (bcell d (cV L) (jV L)) 0)

instance stL_storable (d : Dev nD) (L : grid0.Coords) : BI.Storable (upEmb : UEmb _ (MM F)) (stL cs ts os d L) := by
  unfold stL given cdS tbS todoS outS; infer_instance
instance dnL_storable (d : Dev nD) (L : grid0.Coords) : BI.Storable (upEmb : UEmb _ (MM F)) (dnL cs ts d L) := by
  unfold dnL given cdS tbS doneS outS; infer_instance
instance goS_storable (d : Dev nD) (L : grid0.Coords) : BI.Storable (upEmb : UEmb _ (MM F)) (goS cs ts os d L) := by
  unfold goS given cdS tbS todoS outS spFirst spAny; split <;> infer_instance
instance tdS_storable (d : Dev nD) (L : grid0.Coords) : BI.Storable (upEmb : UEmb _ (MM F)) (tdS cs ts d L) := by
  unfold tdS given cdS tbS doneS outS spS; infer_instance

/-- What SparseCore `c` is given, and what it brings back. -/
def stC (d : Dev nD) (c : Fin (grid0.bound 0)) : sProp (MM F) := bigSep Finset.univ fun i : Fin (grid0.bound 1) => stL cs ts os d (coordsV c i)
def dnC (d : Dev nD) (c : Fin (grid0.bound 0)) : sProp (MM F) := bigSep Finset.univ fun i : Fin (grid0.bound 1) => dnL cs ts d (coordsV c i)

instance stC_storable (d : Dev nD) (c : Fin (grid0.bound 0)) : BI.Storable (upEmb : UEmb _ (MM F)) (stC cs ts os d c) := by
  unfold stC; infer_instance
instance dnC_storable (d : Dev nD) (c : Fin (grid0.bound 0)) : BI.Storable (upEmb : UEmb _ (MM F)) (dnC cs ts d c) := by
  unfold dnC; infer_instance

set_option backward.proofsInPublic true in
/-- The one call's handshakes: out go the tiles' parts, back come the tiles' parts done; each tile owes the barrier its
    arrivals and has its means for it. -/
def P : (K (F := F)).Pay (nD := nD) (Val := Elt F) (Name := ℕ) (U := UU) where
  st := fun q d c => match q with | 0 => stC cs ts os d c
  dn := fun q d c => match q with | 0 => dnC cs ts d c
  go := fun q d c i => match q with | 0 => goS cs ts os d (coordsV c i)
  td := fun q d c i => match q with | 0 => tdS cs ts d (coordsV c i)
  x := fun _ t => match t with
    | (d, .scVector c i) => bkit ts d c i
    | _ => iprop(emp)
  ox := fun _ t => match t with
    | (d, .scVector c _) => oxV d c
    | _ => 0
  ox_band := by
    intro q t g ι h
    obtain rfl : q = 0 := Subsingleton.elim _ _
    rcases t with ⟨d, _ | c | ⟨c, i⟩⟩
    · exact absurd h (lt_irrefl 0)
    · exact absurd h (lt_irrefl 0)
    · obtain ⟨j, rfl, rfl⟩ := oxV_pos h
      rw [(K (F := F)).lev_V_reg d c (j.castLE hsub0) (show (sc_bar0 : Sem sig) ≠ (K (F := F)).go from bar_ne_go)]
      exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P cs ts os).IsStorable where
  st q d c := match q with | 0 => stC_storable cs ts os d c
  dn q d c := match q with | 0 => dnC_storable cs ts d c
  go q d c i := match q with | 0 => goS_storable cs ts os d (coordsV c i)
  td q d c i := match q with | 0 => tdS_storable cs ts d (coordsV c i)

theorem defs₀_vector (c : Fin τ.nSC) (s : Fin τ.nSub) :
    defs₀ (F := F) (.scVector c s) 0 () = SparseCore.onTile hcore0 hsub0 (fun c s => tileProg (coordsV c s)) ⟨⟩ c s := rfl

set_option maxRecDepth 16384 in
theorem tileObl (hcs : ∀ d x, (cs d x : BitVec 32).toNat < 1024) : (K (F := F)).TileObl (D (F := F)) 𝒱 (P cs ts os) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact tile_body cs ts os d (coordsV ⟨_, hci.1⟩ ⟨_, hci.2⟩) hcs O W facts hO hOlev

end Cert.Proof.Run
-- ==== Proof.Deal.lean ====
/-
  The barrier's resources at the launch: every tile's semaphore at zero becomes one with a round, and each tile is dealt
  its place in the sixteen rounds of its SparseCore.
-/
module

public import proofs.«01_k».proof.Proof.Pay

@[expose] public section

noncomputable section

namespace Cert.Proof.Run

open Cert.Kernel Cert.Kernel.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (cs : Dev nD → S524288.Idx → Elt F .i32) (ts : Dev nD → S8192x128.Idx → Elt F .f32) (os : Dev nD → S65536x512.Idx → Elt F .f32)

/-! ## The cells and the tokens -/

/-- A tile: its device, its SparseCore, its place. -/
abbrev DCI : Type := Dev nD × Fin τ.nSC × Fin τ.nSub
abbrev bcell₃ (x : DCI) : GSem nD τ sig := bcell x.1 x.2.1 x.2.2

theorem bcell₃_injective : Function.Injective bcell₃ := fun a b e => by
  obtain ⟨h1, h2⟩ := Prod.mk.inj (Prod.mk.inj e).1
  obtain ⟨h3, h4⟩ := Proc.scVector.inj h2
  exact Prod.ext h1 (Prod.ext h3 h4)

/-- The barrier semaphores of all tiles. -/
def bCells : Finset (GSem nD τ sig) := Finset.univ.image bcell₃
/-- Every tile's token in every round of its SparseCore. -/
def bToks : Finset (GSem nD τ sig × ℕ × ℕ) :=
  (Finset.univ : Finset (DCI × Fin (grid0.bound 1))).image fun x => (bcell x.1.1 x.1.2.1 (x.2.castLE hsub0), 0, x.1.2.2.val)
/-- The ghost state the launch starts from. -/
def u₀ : UU := (initOf (K (F := F)).hsCells (K (F := F)).hsToks, (initOf bCells bToks, 1))

omit [FloatOps F] in
theorem bCells_eq (Φ : GSem nD τ sig → sProp (MM F)) : bigSep bCells Φ = bigSep Finset.univ fun x : DCI => Φ (bcell₃ x) := by
  unfold bCells
  exact SparseCore.bigSep_image_of_injOn (fun a _ b _ e => bcell₃_injective e) Φ

omit [FloatOps F] in
theorem bToks_eq : (bigSep bToks fun x => (dutyTok EB x.1 x.2.1 x.2.2 : sProp (MM F)))
    = bigSep Finset.univ fun x : DCI => bigSep Finset.univ fun j : Fin (grid0.bound 1) => dutyTok EB (bcell x.1 x.2.1 (j.castLE hsub0)) 0 x.2.2.val := by
  unfold bToks
  rw [SparseCore.bigSep_image_of_injOn, bigSep_univ_prod]
  rintro ⟨⟨d, c, i⟩, j⟩ - ⟨⟨d', c', i'⟩, j'⟩ - e
  obtain ⟨e1, e2⟩ := Prod.mk.inj e
  obtain ⟨rfl, h⟩ := Prod.mk.inj (Prod.mk.inj e1).1
  obtain ⟨rfl, hj⟩ := Proc.scVector.inj h
  obtain rfl : j = j' := Fin.ext (congrArg Fin.val hj)
  obtain rfl : i = i' := Fin.ext (Prod.mk.inj e2).2
  rfl

omit [FloatOps F] in
theorem ownU_parts (a : UH) (b : UB) : (ownU ((a, (b, 1)) : UU) : sProp (MM F)) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-! ## The semaphores, the invariants, the credit -/

omit [FloatOps F] in
/-- The barrier semaphores at zero are among those the launch hands over. -/
theorem free_bars : ((K (F := F)).freeOn (· ∈ bCells) : sProp (MM F)) ⊢ bigSep bCells fun g => semVal g 0 := by
  rw [bCells_eq]
  unfold SparseCore.Cfg.freeOn
  refine sep_elim_right.trans (bigSep_mono fun x _ => ?_)
  exact bigSep_elim (Φ := fun sm : SemLoc sig => (semVal (V x.1 x.2.1 x.2.2, sm) 0 : sProp (MM F))) (Finset.mem_filter.mpr
    ⟨Finset.mem_erase.mpr ⟨fun h => bar_ne_go (SemLoc.reg.inj h), Finset.mem_filter.mpr ⟨Finset.mem_univ _, by decide⟩⟩,
      Finset.mem_image_of_mem bcell₃ (Finset.mem_univ x)⟩)

omit [FloatOps F] in
theorem bar_invs : iprop((bigSep bCells fun g => (semVal g 0 : sProp (MM F))) ∗ bigSep bCells fun g => roundState EB (bRd ts) g 0)
    ⊢ |={Set.univ}=> iprop(∃ κ : GSem nD τ sig → ℕ, bigSep bCells fun g => cellInv EB (bRd ts) (κ g) g) := by
  refine (Rounds.bodies_intro EB (bRd ts) bCells).trans ((inv_alloc_family bCells (Rounds.body EB (bRd ts)) ∅ (E := Set.univ)).trans ?_)
  iintro H
  imod H with ⟨%κ, -, Hinv⟩
  imodintro
  iexists κ
  iexact Hinv

theorem sum_ones (g : GSem nD τ sig) (ι : HIx 1) : ∀ n : ℕ, ∑ _ : Fin n, tallyAt g ι 1 = (tallyAt g ι n : CellTallies nD τ sig (HIx 1))
  | 0 => by rw [tallyAt_zero]; rfl
  | n + 1 => by rw [Fin.sum_univ_castSucc, sum_ones g ι n, tallyAt_add]

/-- Each tile gets the credit of sixteen arrivals at its own semaphore. -/
theorem bar_creds : ((P cs ts os).oxCred : sProp (MM F)) ⊢ bigSep Finset.univ fun x : DCI => cred (tallyAt (bcell₃ x) (some 0) (grid0.bound 1)) := by
  unfold SparseCore.Cfg.Pay.oxCred
  rw [SparseCore.Cfg.bigSep_threads (fun t : Thread nD τ => (cred ((P cs ts os).oxFrom 0 t) : sProp (MM F)))]
  refine sep_elim_right.trans (sep_elim_right.trans ?_)
  rw [bigSep_univ_prod, bigSep_univ_prod (fun x : DCI => (cred (tallyAt (bcell₃ x) (some 0) (grid0.bound 1)) : sProp (MM F)))]
  refine bigSep_mono fun d _ => ?_
  rw [bigSep_univ_prod, bigSep_univ_prod (fun ci : Fin τ.nSC × Fin τ.nSub => (cred (tallyAt (bcell₃ (d, ci)) (some 0) (grid0.bound 1)) : sProp (MM F)))]
  refine bigSep_mono fun c _ => ?_
  dsimp only
  have hox : ∀ i, (P cs ts os).oxFrom 0 (V d c i) = oxV d c := fun i => by
    rw [show (0 : ℕ) = (0 : Fin 1).val from rfl, (P cs ts os).oxFrom_step, (P cs ts os).oxFrom_end _ (n := (0 : Fin 1).val + 1) le_rfl, add_zero]
    rfl
  simp only [hox]
  unfold oxV
  rw [SparseCore.Cfg.cred_finsum, bigSep_univ_comm]
  refine bigSep_mono fun j _ => ?_
  rw [← SparseCore.Cfg.cred_finsum, sum_ones]
  rfl

/-! ## The dealing -/

omit [FloatOps F] in
/-- What may be used again and again goes to every conjunct. -/
theorem to_each {I : Type} [DecidableEq I] {R : sProp (MM F)} [BI.Persistent R] {s : Finset I} {Φ Ψ : I → sProp (MM F)}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _))
      isplitr; · iexact HR
      iexact H1
    · iapply (ih fun i hi => h i (Finset.mem_insert_of_mem hi))
      isplitr; · iexact HR
      iexact H2

omit [FloatOps F] in
/-- From every tile's to every tile's of one SparseCore. -/
theorem to_core {Φ : DCI → sProp (MM F)} [BI.Persistent (bigSep Finset.univ Φ)] (d : Dev nD) (c : Fin τ.nSC) :
    bigSep Finset.univ Φ ⊢ bigSep Finset.univ fun j : Fin (grid0.bound 1) => Φ (d, c, j.castLE hsub0) := by
  iintro #H
  iapply (SparseCore.ent (to_each (s := (Finset.univ : Finset (Fin (grid0.bound 1)))) (Φ := fun _ => iprop(emp)) (R := bigSep Finset.univ Φ)
    fun j _ => sep_elim_left.trans (bigSep_elim (Φ := Φ) (Finset.mem_univ (d, c, j.castLE hsub0)))))
  isplitl; · iexact H
  rw [bigSep_none]
  iempintro

/-- What every tile is told: the semaphores' invariants, and that their rounds have begun. -/
abbrev told : sProp (MM F) :=
  iprop((∃ κ : GSem nD τ sig → ℕ, bigSep Finset.univ fun x : DCI => cellInv EB (bRd ts) (κ (bcell₃ x)) (bcell₃ x))
    ∗ bigSep Finset.univ fun x : DCI => reached EB (bcell₃ x) 0)
/-- What a tile gets for itself. -/
abbrev dealt (x : DCI) : sProp (MM F) :=
  iprop(atPos EB (bcell₃ x) 0 ∅ 0
    ∗ (bigSep Finset.univ fun j : Fin (grid0.bound 1) => dutyTok EB (bcell x.1 x.2.1 (j.castLE hsub0)) 0 x.2.2.val)
    ∗ cred (tallyAt (bcell₃ x) (some 0) (grid0.bound 1)))

omit [FloatOps F] in
theorem bkit_intro (x : DCI) : iprop(told ts ∗ dealt x) ⊢ (bkit ts x.1 x.2.1 x.2.2 : sProp (MM F)) := by
  unfold bkit
  iintro ⟨⟨#Hinv, #Hr⟩, Hat, Htok, Hcred⟩
  isplitr
  · icases Hinv with ⟨%κ, Hinv⟩
    iexists κ
    iapply (SparseCore.ent (to_core (Φ := fun x : DCI => (cellInv EB (bRd ts) (κ (bcell₃ x)) (bcell₃ x) : sProp (MM F))) x.1 x.2.1))
    iexact Hinv
  isplitl [Htok]; · iexact Htok
  isplitr
  · iapply (SparseCore.ent (to_core (Φ := fun x : DCI => (reached EB (bcell₃ x) 0 : sProp (MM F))) x.1 x.2.1))
    iexact Hr
  isplitl [Hat]; · iexact Hat
  iexact Hcred

theorem x_T (d : Dev nD) : (bigSep Finset.univ fun q : Fin 1 => (P cs ts os).x q (T d)) = iprop(emp) := bigSep_univ_of_subsingleton (0 : Fin 1)
theorem x_S (d : Dev nD) (c : Fin τ.nSC) : (bigSep Finset.univ fun q : Fin 1 => (P cs ts os).x q (S d c)) = iprop(emp) :=
  bigSep_univ_of_subsingleton (0 : Fin 1)
theorem x_V (d : Dev nD) (c : Fin τ.nSC) (i : Fin τ.nSub) : (bigSep Finset.univ fun q : Fin 1 => (P cs ts os).x q (V d c i)) = bkit ts d c i :=
  bigSep_univ_of_subsingleton (0 : Fin 1)

theorem bkits : iprop(told ts ∗ bigSep Finset.univ dealt)
    ⊢ (bigSep Finset.univ fun t : Thread nD τ => bigSep Finset.univ fun q : Fin 1 => (P cs ts os).x q t : sProp (MM F)) := by
  rw [SparseCore.Cfg.bigSep_threads (fun t : Thread nD τ => bigSep Finset.univ fun q : Fin 1 => (P cs ts os).x q t)]
  simp only [x_T, x_S, x_V, bigSep_none]
  iintro ⟨#Ht, Hd⟩
  isplitr; · iempintro
  isplitr; · iempintro
  iapply (to_each (R := told ts) (Φ := dealt) fun x _ => bkit_intro ts x)
  isplitr; · iexact Ht
  iexact Hd

theorem hu₀ : iprop(ownU (u₀ (F := F)) ∗ (P cs ts os).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun t : Thread nD τ => bigSep Finset.univ fun q : Fin 1 => (P cs ts os).x q t) : sProp (MM F)) := by
  unfold u₀
  iintro ⟨Hu, Hcred, Hfree⟩
  ihave H := (ownU_parts _ _) $$ Hu
  icases H with ⟨HH, HB⟩
  imod (Rounds.fund EB (bRd ts) bCells bToks) $$ HB with ⟨Hst, #Hr, Hat, Htok⟩
  ihave Hsems := (free_bars (F := F)) $$ Hfree
  imod (bar_invs ts) $$ [Hsems Hst] with ⟨%κ, #Hinv⟩
  · isplitl [Hsems] <;> iassumption
  ihave Hcred' := (bar_creds cs ts os) $$ Hcred
  ihave Hinv' := (Entails.of_eq (bCells_eq (F := F) fun g => cellInv EB (bRd ts) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (bToks_eq (F := F))) $$ Htok
  imodintro
  isplitl [HH]; · iexact HH
  isplitr
  · rw [bigSep_none]
    iempintro
  iapply (bkits cs ts os)
  isplitr
  · isplitl
    · iexists κ
      iexact Hinv'
    iexact Hr'
  unfold dealt
  rw [bigSep_sep', bigSep_sep']
  isplitl [Hat']; · iexact Hat'
  isplitl [Htok']; · iexact Htok'
  iexact Hcred'

end Cert.Proof.Run
-- ==== Proof.Split.lean ====
/-
  A SparseCore's tiles: how what the SparseCore is given, with its shared memory, is parted among them, and how what they
  bring back is put together.
-/
module

public import proofs.«01_k».proof.Proof.Pay

@[expose] public section

noncomputable section

namespace Cert.Proof.Run

open Cert.Kernel Cert.Kernel.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

variable (cs : Dev nD → S524288.Idx → Elt F .i32) (ts : Dev nD → S8192x128.Idx → Elt F .f32) (os : Dev nD → S65536x512.Idx → Elt F .f32)
variable (d : Dev nD) (c : Fin (grid0.bound 0))

abbrev cC (c : Fin (grid0.bound 0)) : Fin τ.nSC := c.castLE hcore0

omit [FloatOps F] in
/-- The shared memory is its SparseCore's own. -/
theorem shared_own : (ownBufs (S d (cC c)) : sProp (MM F))
    = iprop((∃ f, shLoc d (cC c) ↦{fullShare} f)
        ∗ bigSep ((ownRefs (τ := τ) (.scScalar (cC c))).erase (shRef (cC c))) fun b => iprop(∃ f, ((d, b) : Loc nD τ sig) ↦{fullShare} f)) := by
  unfold SparseCore.Cfg.ownBufs
  exact SparseCore.bigSep_erase' ((mem_ownRefs (p := Proc.scScalar (cC c)) (b := shRef (cC c))).mpr rfl)

omit [FloatOps F] in
/-- It goes to the first tile. -/
theorem shared_out : iprop(∃ f, shLoc d (cC c) ↦{fullShare} f)
    ⊢ (bigSep Finset.univ fun i : Fin (grid0.bound 1) => spFirst d (coordsV c i) : sProp (MM F)) := by
  have e : (bigSep (Finset.univ.erase (⟨0, by decide⟩ : Fin (grid0.bound 1))) fun i : Fin (grid0.bound 1) => (spFirst d (coordsV c i) : sProp (MM F)))
      = bigSep (Finset.univ.erase (⟨0, by decide⟩ : Fin (grid0.bound 1))) fun _ => iprop(emp) :=
    bigSep_congr fun i hi => if_neg fun h => (Finset.mem_erase.mp hi).1 (Fin.ext h)
  rw [SparseCore.bigSep_erase' (Finset.mem_univ (⟨0, by decide⟩ : Fin (grid0.bound 1))), e, bigSep_none]
  unfold spFirst
  rw [if_pos (show ((coordsV c ⟨0, by decide⟩) 1).val = 0 from rfl)]
  unfold spAny
  rw [show (spM.view.set : Finset S8192x128.Idx) = Finset.univ from View.set_whole _]
  iintro H
  isplitl [H]; · iexact H
  iempintro

omit [FloatOps F] in
/-- The tiles' shares of it are all of it. -/
theorem shared_back : (bigSep Finset.univ fun i : Fin (grid0.bound 1) => (spS (ts d) d (coordsV c i) (sixteenth (jL (coordsV c i))) : sProp (MM F)))
    ⊢ iprop(∃ f, shLoc d (cC c) ↦{fullShare} f) := by
  unfold spS
  rw [srcM_set]
  exact BI.Entails.trans (Entails.of_eq
    (pointsTo_piecesOf (ℓ := shLoc d (cC c)) Finset.univ (ts d) (o := 16) (by decide) fullShare).symm)
    (BI.BIClass.exists_intro (Φ := fun f => (shLoc d (cC c) ↦{fullShare} f : sProp (MM F))) (ts d))

theorem goS_eq (L : grid0.Coords) : (goS cs ts os d L : sProp (MM F)) ⊣⊢ iprop(stL cs ts os d L ∗ spFirst d L) := by
  unfold goS stL
  constructor
  · iintro ⟨H1, H2, H3⟩
    isplitl [H1 H2]
    · isplitl [H1] <;> iassumption
    iexact H3
  · iintro ⟨⟨H1, H2⟩, H3⟩
    isplitl [H1]; · iexact H1
    isplitl [H2] <;> iassumption

theorem tdS_eq (L : grid0.Coords) : (tdS cs ts d L : sProp (MM F)) ⊢ iprop(dnL cs ts d L ∗ spS (ts d) d L (sixteenth (jL L))) := by
  unfold tdS dnL
  iintro ⟨⟨H1, H2, H3⟩, H4⟩
  isplitr [H3]; swap; · iexact H3
  isplitr [H4]; swap; · iexact H4
  isplitl [H1] <;> iassumption

theorem parted : iprop(stC cs ts os d c ∗ ownBufs (S d (cC c))) ⊢ |={Set.univ}=> iprop(
      (bigSep Finset.univ fun i : Fin (grid0.bound 1) => goS cs ts os d (coordsV c i))
      ∗ ((bigSep Finset.univ fun i : Fin (grid0.bound 1) => tdS cs ts d (coordsV c i)) -∗ iprop(dnC cs ts d c ∗ ownBufs (S d (cC c))))) := by
  rw [shared_own]
  iintro ⟨Hst, Hsh, Hrest⟩
  imodintro
  isplitl [Hst Hsh]
  · ihave Hf := (shared_out d c) $$ Hsh
    iapply (SparseCore.ent (bigSep_mono fun (i : Fin (grid0.bound 1)) _ => (goS_eq cs ts os d (coordsV c i)).2))
    rw [bigSep_sep']
    isplitl [Hst]
    · unfold stC
      iexact Hst
    iexact Hf
  iintro Htd
  ihave Htd' := (SparseCore.ent (bigSep_mono fun (i : Fin (grid0.bound 1)) _ => tdS_eq cs ts d (coordsV c i))) $$ Htd
  ihave Htd'' := (Entails.of_eq (bigSep_sep' _ _ _)) $$ Htd'
  icases Htd'' with ⟨Hdn, Hsp⟩
  isplitl [Hdn]
  · unfold dnC
    iexact Hdn
  isplitl [Hsp]
  · iapply (shared_back ts d c)
    iexact Hsp
  iexact Hrest

theorem vecSplit : (K (F := F)).VecSplit (P cs ts os) 0 := fun d c => parted cs ts os d c

end Cert.Proof.Run
-- ==== Proof.Join.lean ====
/-
  The whole arrays and the tiles' parts of them: a thirty-second share of the codes and of the table each, and 2048 rows
  of the result.
-/
module

public import proofs.«01_k».proof.Proof.Pay

@[expose] public section

noncomputable section

namespace Cert.Proof.Run

open Cert.Kernel Cert.Kernel.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The tiles' numbers -/

set_option backward.proofsInPublic true in
/-- The tiles by their SparseCore and place, and by their number. -/
def numbered : Fin (grid0.bound 0) × Fin (grid0.bound 1) ≃ Fin 32 where
  toFun x := ⟨2 * x.2.val + x.1.val, by
    have h0 : x.1.val < 2 := x.1.isLt
    have h1 : x.2.val < 16 := x.2.isLt
    omega⟩
  invFun w := (⟨w.val % 2, Nat.mod_lt _ (by decide)⟩, ⟨w.val / 2, by have := w.isLt; show w.val / 2 < 16; omega⟩)
  left_inv x := by
    have h0 : x.1.val < 2 := x.1.isLt
    refine Prod.ext (Fin.ext ?_) (Fin.ext ?_)
    · show (2 * x.2.val + x.1.val) % 2 = x.1.val; omega
    · show (2 * x.2.val + x.1.val) / 2 = x.2.val; omega
  right_inv w := Fin.ext (by show 2 * (w.val / 2) + w.val % 2 = w.val; omega)

theorem numbered_eq (c : Fin (grid0.bound 0)) (i : Fin (grid0.bound 1)) :
    numbered (c, i) = (⟨wid (coordsV c i), wid_lt (coordsV c i)⟩ : Fin 32) := rfl

omit [FloatOps F] in
/-- Something of every number is something of every tile. -/
theorem by_tile (Φ : Fin 32 → sProp (MM F)) :
    bigSep Finset.univ Φ = bigSep Finset.univ fun c : Fin (grid0.bound 0) => bigSep Finset.univ fun i : Fin (grid0.bound 1) => Φ (numbered (c, i)) := by
  rw [bigSep_univ_equiv numbered, bigSep_univ_prod]

/-! ## The arrays -/

abbrev codeLoc (d : Dev nD) : Loc nD τ sig := (SparseCore.T d).loc main_v0
abbrev tabLoc (d : Dev nD) : Loc nD τ sig := (SparseCore.T d).loc main_v2
abbrev outLoc (d : Dev nD) : Loc nD τ sig := (SparseCore.T d).loc main_v3

/-- The rows of the tile of number `w`. -/
abbrev band (w : Fin 32) : Finset S65536x512.Idx := rows (2048 * w.val) (2048 * w.val + 2048)

theorem band_disjoint : ∀ w ∈ (Finset.univ : Finset (Fin 32)), ∀ w' ∈ (Finset.univ : Finset (Fin 32)), w ≠ w' → Disjoint (band w) (band w') :=
  fun w _ w' _ h => Finset.disjoint_left.mpr fun x hx hx' => by
    rw [mem_rows] at hx hx'
    exact h (Fin.ext (by omega))

theorem band_cover : (Finset.univ : Finset (Fin 32)).biUnion band = Finset.univ := by
  refine Finset.eq_univ_of_forall fun x => ?_
  have hx : (x 0).val < 65536 := (x 0).isLt
  rw [Finset.mem_biUnion]
  refine ⟨⟨(x 0).val / 2048, by omega⟩, Finset.mem_univ _, ?_⟩
  rw [mem_rows]
  constructor <;> dsimp only <;> omega

omit [FloatOps F] in
theorem out_bands (d : Dev nD) (f : S65536x512.Idx → Elt F .f32) :
    (outLoc d ↦{fullShare} f : sProp (MM F)) = bigSep Finset.univ fun w : Fin 32 => outLoc d ↦[band w]{fullShare} f := by
  rw [← pointsTo_biUnion Finset.univ (ℓ := outLoc d) band band_disjoint, band_cover]
  try rfl

variable (cs : Dev nD → S524288.Idx → Elt F .i32) (ts : Dev nD → S8192x128.Idx → Elt F .f32) (os : Dev nD → S65536x512.Idx → Elt F .f32)
variable (d : Dev nD)

omit [FloatOps F] in
theorem cdS_num (L : grid0.Coords) (f : S524288.Idx → Elt F .i32) (q : PosShare TreeShare) :
    (codeLoc d ↦[Finset.univ]{q} f : sProp (MM F)) = cdS f d L q := rfl
omit [FloatOps F] in
theorem tbS_num (L : grid0.Coords) (f : S8192x128.Idx → Elt F .f32) (q : PosShare TreeShare) :
    (tabLoc d ↦[Finset.univ]{q} f : sProp (MM F)) = tbS f d L q := by
  unfold tbS
  rw [show (tabM.view.set : Finset S8192x128.Idx) = Finset.univ from View.set_whole _]
omit [FloatOps F] in
theorem outS_num (L : grid0.Coords) (f : S65536x512.Idx → Elt F .f32) :
    (outLoc d ↦[band ⟨wid L, wid_lt L⟩]{fullShare} f : sProp (MM F)) = outS d L (row0 L 0) (row0 L 256) f := rfl

/-- The whole arrays, parted among the tiles. -/
theorem part_out : iprop((codeLoc d ↦{fullShare} cs d) ∗ (tabLoc d ↦{fullShare} ts d) ∗ outLoc d ↦{fullShare} os d)
    ⊢ (bigSep Finset.univ fun c : Fin (grid0.bound 0) => stC cs ts os d c : sProp (MM F)) := by
  rw [pointsTo_piecesOf (ℓ := codeLoc d) Finset.univ (cs d) (o := 32) (by decide) fullShare,
    pointsTo_piecesOf (ℓ := tabLoc d) Finset.univ (ts d) (o := 32) (by decide) fullShare, out_bands, ← bigSep_sep', ← bigSep_sep', by_tile]
  refine SparseCore.ent (bigSep_mono fun c _ => ?_)
  unfold stC
  refine SparseCore.ent (bigSep_mono fun i _ => ?_)
  rw [numbered_eq, cdS_num d (coordsV c i), tbS_num d (coordsV c i), outS_num d (coordsV c i)]
  unfold stL given todoS
  show _ ⊢ (_ : sProp (MM F))
  iintro ⟨H1, H2, H3⟩
  isplitr [H3]; swap; · iexact H3
  isplitl [H1] <;> iassumption

/-- The barrier semaphores, over. -/
abbrev bars : sProp (MM F) :=
  bigSep Finset.univ fun c : Fin (grid0.bound 0) => bigSep Finset.univ fun i : Fin (grid0.bound 1) =>
    semVal (bcell d (cV (coordsV c i)) (jV (coordsV c i))) 0

/-- What the tiles bring back: the whole result. -/
theorem part_back : (bigSep Finset.univ fun c : Fin (grid0.bound 0) => dnC cs ts d c : sProp (MM F))
    ⊢ iprop((outLoc d ↦{fullShare} outC (cs d) (ts d)) ∗ bars d) := by
  rw [out_bands, by_tile]
  unfold bars
  rw [← bigSep_sep']
  refine SparseCore.ent (bigSep_mono fun c _ => ?_)
  unfold dnC
  rw [← bigSep_sep']
  refine SparseCore.ent (bigSep_mono fun i _ => ?_)
  rw [numbered_eq, outS_num d (coordsV c i)]
  unfold dnL doneS
  show _ ⊢ (_ : sProp (MM F))
  iintro ⟨⟨-, H⟩, Hb⟩
  isplitl [H] <;> iassumption

end Cert.Proof.Run
-- ==== Proof.Host.lean ====
/-
  The operations before the call: the codes laid flat, the codebooks laid as one table of 64 columns and padded to 128.
-/
module

public import proofs.«01_k».proof.Proof.Value

@[expose] public section

noncomputable section

namespace Cert.Proof.Run

open Cert.Kernel Cert.Kernel.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

/-! ## The arrays -/

abbrev a0' : DevRef τ sig := Proc.tc.devRef main_arg0
abbrev a1' : DevRef τ sig := Proc.tc.devRef main_arg1
abbrev v0' : DevRef τ sig := Proc.tc.devRef main_v0
abbrev v1' : DevRef τ sig := Proc.tc.devRef main_v1
abbrev c' : DevRef τ sig := Proc.tc.devRef main_c
abbrev p' : DevRef τ sig := Proc.tc.devRef main_call0_v0
abbrev v2' : DevRef τ sig := Proc.tc.devRef main_v2
abbrev v3' : DevRef τ sig := Proc.tc.devRef main_v3

/-- All of the main program's arrays. -/
abbrev arrays : Finset (DevRef τ sig) := {a0', a1', v0', v1', c', p', v2', v3'}

omit [FloatOps F] in
theorem held_arrays (d : Dev nD) (W : Valuation τ sig (Elt F)) :
    (held (SparseCore.T d) arrays W : sProp (MM F))
      = iprop(((SparseCore.T d).loc main_arg0 ↦{fullShare} W a0') ∗ ((SparseCore.T d).loc main_arg1 ↦{fullShare} W a1') ∗ ((SparseCore.T d).loc main_v0 ↦{fullShare} W v0')
          ∗ ((SparseCore.T d).loc main_v1 ↦{fullShare} W v1') ∗ ((SparseCore.T d).loc main_c ↦{fullShare} W c') ∗ ((SparseCore.T d).loc main_call0_v0 ↦{fullShare} W p')
          ∗ ((SparseCore.T d).loc main_v2 ↦{fullShare} W v2') ∗ (SparseCore.T d).loc main_v3 ↦{fullShare} W v3') := by
  unfold held arrays
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem unscoped_arrays (d : Dev nD) (W : (b : Ref sig .tc) → Buf (Elt F) ((d.tc : Thread nD τ).loc b)) :
    (unscopedBufs d W : sProp (MM F))
      = iprop(((SparseCore.T d).loc main_arg0 ↦{fullShare} W main_arg0) ∗ ((SparseCore.T d).loc main_arg1 ↦{fullShare} W main_arg1)
          ∗ ((SparseCore.T d).loc main_v0 ↦{fullShare} W main_v0) ∗ ((SparseCore.T d).loc main_v1 ↦{fullShare} W main_v1) ∗ ((SparseCore.T d).loc main_c ↦{fullShare} W main_c)
          ∗ ((SparseCore.T d).loc main_call0_v0 ↦{fullShare} W main_call0_v0) ∗ ((SparseCore.T d).loc main_v2 ↦{fullShare} W main_v2)
          ∗ (SparseCore.T d).loc main_v3 ↦{fullShare} W main_v3) := by
  unfold unscopedBufs
  rw [show (Finset.univ.filter fun b : Ref sig .tc => ¬ b.isScoped)
      = {main_arg0, main_arg1, main_v0, main_v1, main_c, main_call0_v0, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The operations -/

/-- The codes, flat. -/
abbrev opCodes : HloOp τ sig (Elt F) := StableHlo.reshape main_arg0 main_v0 (rfl : (.i32 : EltTy) = .i32) shapeCasts_S65536x8_S524288
/-- The codebooks, one under the other. -/
abbrev opBooks : HloOp τ sig (Elt F) := StableHlo.reshape main_arg1 main_v1 (rfl : (.f32 : EltTy) = .f32) shapeCasts_S8x1024x64_S8192x64
/-- The padding, an integer zero. -/
abbrev opZero : HloOp τ sig (Elt F) := StableHlo.nullary main_c (constantI S_ 32 0#32)
/-- The padding as a float. -/
abbrev opFill : HloOp τ sig (Elt F) := StableHlo.TRef.unary (.of main_c : StableHlo.TRef sig ⟨S_, .i32⟩) main_call0.v0 (sitofp .f32)
/-- The padded table. -/
abbrev opPad : HloOp τ sig (Elt F) := StableHlo.TRef.binary (.of main_v1 : StableHlo.TRef sig ⟨S8192x64, .f32⟩) main_call0.v0 main_call0.v1
  (fun x v => pad S8192x128 ![0, 0] ![0, 64] ![0, 0] x v pads_S8192x64_S8192x128_000_0640 h_S_)

theorem opCodes_in : (opCodes (F := F)).bufs ⊆ arrays := show ({a0', v0'} : Finset (DevRef τ sig)) ⊆ arrays by decide
theorem opBooks_in : (opBooks (F := F)).bufs ⊆ arrays := show ({a1', v1'} : Finset (DevRef τ sig)) ⊆ arrays by decide
theorem opZero_in : (opZero (F := F)).bufs ⊆ arrays := show ({c'} : Finset (DevRef τ sig)) ⊆ arrays by decide
theorem opFill_in : (opFill (F := F)).bufs ⊆ arrays := show ({c', p'} : Finset (DevRef τ sig)) ⊆ arrays by decide
theorem opPad_in : (opPad (F := F)).bufs ⊆ arrays := show ({v1', p', v2'} : Finset (DevRef τ sig)) ⊆ arrays by decide

/-- The flat codes of an array of codes. -/
def codesOf (a : S65536x8.Idx → Elt F .i32) : S524288.Idx → Elt F .i32 := shapeCast S524288 a shapeCasts_S65536x8_S524288
/-- The padded table of the codebooks. -/
def tableOf (a : S8x1024x64.Idx → Elt F .f32) : S8192x128.Idx → Elt F .f32 :=
  pad S8192x128 ![0, 0] ![0, 64] ![0, 0] (shapeCast S8192x64 a shapeCasts_S8x1024x64_S8192x64) (sitofp .f32 (constantI S_ 32 0#32))
    pads_S8192x64_S8192x128_000_0640 h_S_

/-! ## What they leave -/

variable (m : (ℓ : Loc nD τ sig) → Buf (Elt F) ℓ) (d : Dev nD)

def V0 : Valuation τ sig (Elt F) := fun b => m (d, b)
def V1 : Valuation τ sig (Elt F) := (opCodes (F := F)).result (V0 m d)
def V2 : Valuation τ sig (Elt F) := (opBooks (F := F)).result (V1 m d)
def V3 : Valuation τ sig (Elt F) := (opZero (F := F)).result (V2 m d)
def V4 : Valuation τ sig (Elt F) := (opFill (F := F)).result (V3 m d)
def V5 : Valuation τ sig (Elt F) := (opPad (F := F)).result (V4 m d)

omit [FloatOps F] in
theorem unscoped_held : (unscopedBufs d (fun b => m ((SparseCore.T d).loc b)) : sProp (MM F)) = held (SparseCore.T d) arrays (V0 m d) := by
  rw [unscoped_arrays, held_arrays]; rfl

/-- An array none of the five writes. -/
theorem V5_kept {b : DevRef τ sig} (h0 : b ≠ v0') (h1 : b ≠ v1') (h2 : b ≠ c') (h3 : b ≠ p') (h4 : b ≠ v2') : V5 m d b = m (d, b) := by
  unfold V5 V4 V3 V2 V1
  rw [(opPad (F := F)).result_of_not_mem _ (show b ∉ ({v2'} : Finset (DevRef τ sig)) from fun h => h4 (Finset.mem_singleton.mp h)),
    (opFill (F := F)).result_of_not_mem _ (show b ∉ ({p'} : Finset (DevRef τ sig)) from fun h => h3 (Finset.mem_singleton.mp h)),
    (opZero (F := F)).result_of_not_mem _ (show b ∉ ({c'} : Finset (DevRef τ sig)) from fun h => h2 (Finset.mem_singleton.mp h)),
    (opBooks (F := F)).result_of_not_mem _ (show b ∉ ({v1'} : Finset (DevRef τ sig)) from fun h => h1 (Finset.mem_singleton.mp h)),
    (opCodes (F := F)).result_of_not_mem _ (show b ∉ ({v0'} : Finset (DevRef τ sig)) from fun h => h0 (Finset.mem_singleton.mp h))]
  rfl

theorem V5_codes : V5 m d v0' = codesOf (m ((SparseCore.T d).loc main_arg0)) := by
  unfold V5 V4 V3 V2 V1
  rw [(opPad (F := F)).result_of_not_mem _ (show v0' ∉ ({v2'} : Finset (DevRef τ sig)) by decide),
    (opFill (F := F)).result_of_not_mem _ (show v0' ∉ ({p'} : Finset (DevRef τ sig)) by decide),
    (opZero (F := F)).result_of_not_mem _ (show v0' ∉ ({c'} : Finset (DevRef τ sig)) by decide),
    (opBooks (F := F)).result_of_not_mem _ (show v0' ∉ ({v1'} : Finset (DevRef τ sig)) by decide)]
  exact StableHlo.reshape_result _ _ _ _ _ _ _

theorem V4_books : V4 m d v1' = shapeCast S8192x64 (m ((SparseCore.T d).loc main_arg1)) shapeCasts_S8x1024x64_S8192x64 := by
  unfold V4 V3 V2 V1
  rw [(opFill (F := F)).result_of_not_mem _ (show v1' ∉ ({p'} : Finset (DevRef τ sig)) by decide),
    (opZero (F := F)).result_of_not_mem _ (show v1' ∉ ({c'} : Finset (DevRef τ sig)) by decide)]
  refine (StableHlo.reshape_result _ _ _ _ _ _ _).trans ?_
  rw [(opCodes (F := F)).result_of_not_mem _ (show a1' ∉ ({v0'} : Finset (DevRef τ sig)) by decide)]
  rfl

theorem V3_zero : V3 m d c' = constantI S_ 32 0#32 := by
  unfold V3
  exact StableHlo.nullary_result _ _ _ _

theorem V4_fill : V4 m d p' = sitofp .f32 (constantI S_ 32 0#32) := by
  unfold V4
  refine (StableHlo.unary_result _ _ _ _ _ _).trans ?_
  exact congrArg (fun v : S_.Idx → Elt F .i32 => sitofp (F := F) .f32 v) (V3_zero m d)

theorem V5_table : V5 m d v2' = tableOf (m ((SparseCore.T d).loc main_arg1)) := by
  unfold V5
  refine (StableHlo.binary_result _ _ _ _ _ _ _ _).trans ?_
  exact congrArg₂ (fun (x : S8192x64.Idx → Elt F .f32) (v : S_.Idx → Elt F .f32) =>
    pad S8192x128 ![0, 0] ![0, 64] ![0, 0] x v pads_S8192x64_S8192x128_000_0640 h_S_) (V4_books m d) (V4_fill m d)

end Cert.Proof.Run
-- ==== Proof.Main.lean ====
/-
  The whole program's run: the five operations before the call, the call, and what the memory holds at the end.
-/
module

public import proofs.«01_k».proof.Proof.Deal
public import proofs.«01_k».proof.Proof.Split
public import proofs.«01_k».proof.Proof.Join
public import proofs.«01_k».proof.Proof.Host

@[expose] public section

noncomputable section

namespace Cert.Proof.Run

open Cert.Kernel Cert.Kernel.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

variable (m : (ℓ : Loc nD τ sig) → Buf (Elt F) ℓ) (ρ : Dev nD → PrngReg)

/-- The flat codes, the padded table, and the result array as the launch finds it. -/
def cs (d : Dev nD) : S524288.Idx → Elt F .i32 := codesOf (m ((SparseCore.T d).loc main_arg0))
def ts (d : Dev nD) : S8192x128.Idx → Elt F .f32 := tableOf (m ((SparseCore.T d).loc main_arg1))
def os (d : Dev nD) : S65536x512.Idx → Elt F .f32 := m ((SparseCore.T d).loc main_v3)

/-- The handshakes at this memory. -/
abbrev PM : (K (F := F)).Pay (nD := nD) (Val := Elt F) (Name := ℕ) (U := UU) := P (cs m) (ts m) (os m)

/-- What the main program leaves of device `d`: the arguments as they were, the result decoded, the barrier over. -/
abbrev FIN (d : Dev nD) : sProp (MM F) :=
  iprop(((SparseCore.T d).loc main_arg0 ↦{fullShare} m ((SparseCore.T d).loc main_arg0))
    ∗ ((SparseCore.T d).loc main_arg1 ↦{fullShare} m ((SparseCore.T d).loc main_arg1))
    ∗ (outLoc d ↦{fullShare} outC (cs m d) (ts m d)) ∗ bars d)

/-- The arrays before the call. -/
theorem held_before (d : Dev nD) :
    (held (SparseCore.T d) arrays ((opPad (F := F)).result ((opFill (F := F)).result ((opZero (F := F)).result
        ((opBooks (F := F)).result ((opCodes (F := F)).result (V0 m d)))))) : sProp (MM F))
      = iprop(((SparseCore.T d).loc main_arg0 ↦{fullShare} m ((SparseCore.T d).loc main_arg0))
        ∗ ((SparseCore.T d).loc main_arg1 ↦{fullShare} m ((SparseCore.T d).loc main_arg1))
        ∗ (codeLoc d ↦{fullShare} cs m d) ∗ ((SparseCore.T d).loc main_v1 ↦{fullShare} V5 m d v1')
        ∗ ((SparseCore.T d).loc main_c ↦{fullShare} V5 m d c') ∗ ((SparseCore.T d).loc main_call0_v0 ↦{fullShare} V5 m d p')
        ∗ (tabLoc d ↦{fullShare} ts m d) ∗ outLoc d ↦{fullShare} os m d) := by
  show held (SparseCore.T d) arrays (V5 m d) = _
  rw [held_arrays, V5_codes, V5_table, V5_kept m d (b := a0') (by decide) (by decide) (by decide) (by decide) (by decide),
    V5_kept m d (b := a1') (by decide) (by decide) (by decide) (by decide) (by decide),
    V5_kept m d (b := v3') (by decide) (by decide) (by decide) (by decide) (by decide)]
  rfl

theorem st_eq (d : Dev nD) : (bigSep Finset.univ fun c : Fin ((K (F := F)).nCore 0) => (PM m).st 0 d c)
    = (bigSep Finset.univ fun c : Fin (grid0.bound 0) => stC (cs m) (ts m) (os m) d c : sProp (MM F)) := rfl
theorem dn_eq (d : Dev nD) : (bigSep Finset.univ fun c : Fin ((K (F := F)).nCore 0) => (PM m).dn 0 d c)
    = (bigSep Finset.univ fun c : Fin (grid0.bound 0) => dnC (cs m) (ts m) d c : sProp (MM F)) := rfl

theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := opCodes) (S := arrays) opCodes_in (V := V0 m d)) $$ [Hb Hheld]
  · isplitl [Hb] <;> iassumption
  iintro ⟨Hb, Hheld⟩
  rw [wp_ret]; imodintro
  iapply (wp_hlo_within 𝒱 (SparseCore.T d) none Set.univ (op := opBooks) (S := arrays) opBooks_in (V := (opCodes (F := F)).result (V0 m d))) $$ [Hb Hheld]
  · isplitl [Hb] <;> iassumption
  iintro ⟨Hb, Hheld⟩
  rw [wp_ret]; imodintro
  iapply (wp_hlo_within 𝒱 (SparseCore.T d) none Set.univ (op := opZero) (S := arrays) opZero_in
    (V := (opBooks (F := F)).result ((opCodes (F := F)).result (V0 m d)))) $$ [Hb Hheld]
  · isplitl [Hb] <;> iassumption
  iintro ⟨Hb, Hheld⟩
  rw [wp_ret]; imodintro
  iapply (wp_hlo_within 𝒱 (SparseCore.T d) none Set.univ (op := opFill) (S := arrays) opFill_in
    (V := (opZero (F := F)).result ((opBooks (F := F)).result ((opCodes (F := F)).result (V0 m d))))) $$ [Hb Hheld]
  · isplitl [Hb] <;> iassumption
  iintro ⟨Hb, Hheld⟩
  rw [wp_ret]; imodintro
  iapply (wp_hlo_within 𝒱 (SparseCore.T d) none Set.univ (op := opPad) (S := arrays) opPad_in
    (V := (opFill (F := F)).result ((opZero (F := F)).result ((opBooks (F := F)).result ((opCodes (F := F)).result (V0 m d)))))) $$ [Hb Hheld]
  · isplitl [Hb] <;> iassumption
  iintro ⟨Hb, Hheld⟩
  rw [wp_ret]; imodintro
  try imodintro
  ihave Hh := (Entails.of_eq (held_before m d)) $$ Hheld
  icases Hh with ⟨Ha0, Ha1, Hcodes, -, -, -, Htab, Hout⟩
  iapply ((K (F := F)).wp_run (D (F := F)) 𝒱 (EH := EH) (P := PM m) κ d 0) $$ [Hst Ha0 Ha1 Hcodes Htab Hout Hb Hts]
  isplitr; · iexact Hctx
  isplitl [Hst]; · iexact Hst
  isplitl [Hcodes Htab Hout]
  · rw [st_eq]
    iapply (part_out (cs m) (ts m) (os m) d)
    isplitl [Hcodes]; · iexact Hcodes
    isplitl [Htab] <;> iassumption
  iintro ⟨Hst, Hdn⟩
  ihave Hdn' := (Entails.of_eq (dn_eq m d)) $$ Hdn
  ihave Hback := (part_back (cs m) (ts m) d) $$ Hdn'
  icases Hback with ⟨Hout, Hbars⟩
  imodintro
  isplitl [Hst]; · iexact Hst
  isplitr [Hb Hts]
  · isplitl [Ha0]; · iexact Ha0
    isplitl [Ha1]; · iexact Ha1
    isplitl [Hout] <;> iassumption
  isplitl [Hb] <;> iassumption

/-! ## The final memory -/

/-- What the final memory is on device `d`. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem (outLoc d) = outC (cs m d) (ts m d)
    ∧ ∀ (c : Fin (grid0.bound 0)) (i : Fin (grid0.bound 1)), s'.mem.sem (bcell d (cV (coordsV c i)) (jV (coordsV c i))) = 0

omit [FloatOps F] in
/-- An array held whole is what the memory has there. -/
theorem memory_is (ℓ : Loc nD τ sig) (f : Buf (Elt F) ℓ) (s' : Phys nD τ sig (Elt F)) :
    iprop((ℓ ↦{fullShare} f) ∗ SI s') ⊢ (⌜s'.mem.mem ℓ = f⌝ : sProp (MM F)) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro
  exact funext fun i => hx i (Finset.mem_univ i)

theorem hfin (d : Dev nD) (s' : Phys nD τ sig (Elt F)) : iprop(FIN m d ∗ SI s') ⊢ (⌜fq m d s'⌝ : sProp (MM F)) :=
  fun x hx => ⟨((sep_mono_left sep_elim_left).trans (memory_is _ _ s')) x hx,
    ((sep_mono_left (sep_elim_right.trans sep_elim_left)).trans (memory_is _ _ s')) x hx,
    ((sep_mono_left (sep_elim_right.trans (sep_elim_right.trans sep_elim_left))).trans (memory_is _ _ s')) x hx,
    fun c i => ((sep_mono_left (sep_elim_right.trans (sep_elim_right.trans (sep_elim_right.trans
      ((SparseCore.ent (bigSep_elim (Finset.mem_univ c))).trans (SparseCore.ent (bigSep_elim (Finset.mem_univ i)))))))).trans
        (SparseCore.Cfg.semVal_zero_read _ s')) x hx⟩

theorem bars_zero (s' : Phys nD τ sig (Elt F)) (h : ∀ d, fq m d s') (g : GSem nD τ sig) (hg : g ∈ bCells) : s'.mem.sem g = 0 := by
  obtain ⟨⟨d, c, i⟩, _, rfl⟩ := Finset.mem_image.mp hg
  exact (h d).2.2.2 c i

/-! ## The run -/

/-- The arguments unchanged, the result decoded, every semaphore at zero. -/
def Ends : PUnit × MemSt nD τ sig (Elt F) → Prop := fun r =>
  (∀ d : Dev nD, r.2.mem ((SparseCore.T d).loc main_arg0) = m ((SparseCore.T d).loc main_arg0)
      ∧ r.2.mem ((SparseCore.T d).loc main_arg1) = m ((SparseCore.T d).loc main_arg1)
      ∧ r.2.mem (outLoc d) = outC (cs m d) (ts m d))
    ∧ r.2.sem = fun _ => 0

theorem run_main [∀ e, Nonempty (Elt F e)] (hcs : ∀ d x, (cs m d x : BitVec 32).toNat < 1024) :
    θ_run (Cert.Kernel.defs (F := F)) (Cert.Kernel.threads (F := F)) ⟨m, fun _ => 0, ρ⟩ (Ends m) :=
  SparseCore.Cfg.θ_run_sc_quiescent (K := K (F := F)) (D := D (F := F)) (𝒱 := 𝒱) (EH := EH) (P := PM m) (hA := bars_zero m) facts v₀
    (fun q hq => match q with | 0 => nomatch hq)
    (fun q _ => match q with | 0 => tileObl (cs m) (ts m) (os m) hcs)
    (fun q _ => match q with | 0 => vecSplit (cs m) (ts m) (os m))
    m ρ main (fun _ => iprop(emp)) (FIN m) (u₀ (F := F)) (hu₀ (cs m) (ts m) (os m)) (hmain m ρ) (fq m) (hfin m) (Ends m)
    (fun _ h hz => ⟨fun d => ⟨(h d).1, (h d).2.1, (h d).2.2.1⟩, hz⟩)

end Cert.Proof.Run
-- ==== Proof.Pre.lean ====
/-
  What the precondition says of the codes: each is below 1024.
-/
module

public import proofs.«01_k».proof.Proof.Host
public import proofs.«01_k».proof.Proof.Gen.Pre_codes_in_range
public import Idealize.ShloMosaic.Lib.ReduceAll

@[expose] public section

noncomputable section

namespace Cert.Proof.Run

open Cert.Kernel
open Idealize.ShloMosaic

variable {F : FTy → Type} [FloatOps F]

/-- A word that is at least 0 and below 1024, read signed, is below 1024 read unsigned. -/
theorem word_lt (v : BitVec 32) (h0 : (0#32).toInt ≤ v.toInt) (h1 : v.toInt < (1024#32).toInt) : v.toNat < 1024 := by
  have e0 : (0#32).toInt = 0 := by decide
  have e1 : (1024#32).toInt = 1024 := by decide
  rw [e0] at h0
  rw [e1] at h1
  rw [BitVec.toInt_eq_toNat_cond] at h0 h1
  have := v.isLt
  split at h0 <;> omega

instance : Subsingleton Cert.Pre_codes_in_range.S_.Idx := ⟨fun a b => funext fun i => i.elim0⟩

/-- Where the predicate is 1, every code is below 1024. -/
theorem codes_lt (a : S65536x8.Idx → Elt F .i32) (b : S8x1024x64.Idx → Elt F .f32)
    (h : Cert.Pre_codes_in_range.fn (F := F) a b = fun _ => 1#1) (x : S65536x8.Idx) : (a x : BitVec 32).toNat < 1024 := by
  have e := congrFun h (fun i => i.elim0)
  obtain ⟨h0, h1⟩ := IntOp.andi_eq_one.1 (Host.reduce_andi_all _ _ _ _ _ e x)
  exact word_lt _ (IntOp.cmpi_sge.1 h0) (IntOp.cmpi_slt.1 h1)

/-- The flat codes are the codes. -/
theorem flat_codes_lt (a : S65536x8.Idx → Elt F .i32) (h : ∀ x, (a x : BitVec 32).toNat < 1024) (x : S524288.Idx) :
    (codesOf a x : BitVec 32).toNat < 1024 := h _

end Cert.Proof.Run
-- ==== Proof.Decode.lean ====
/-
  The decoding, written plainly: result (r, j) is lane j mod 64 of the codeword that row r's code of subspace j / 64
  names in that subspace's codebook. The kernel's result is it.
-/
module

public import proofs.«01_k».proof.Proof.Host
public import proofs.«01_k».proof.Proof.Value
public import Idealize.ShloMosaic.Lib.KernelVsHost
public import Idealize.ShloMosaic.Lib.Pipeline.Value
public import Idealize.ShloMosaic.Lib.ValueIdxCore

@[expose] public section

noncomputable section

namespace Cert.Proof.Run

open Cert.Kernel Cert.Kernel.Gen
open Idealize.ShloMosaic
open Idealize.ShloMosaic.ValueIdx (ix2 ix3)

variable {F : FTy → Type} [FloatOps F]

variable (a : S65536x8.Idx → Elt F .i32) (b : S8x1024x64.Idx → Elt F .f32)

/-- The subspace of column `j`. -/
def sub (j : Fin 512) : Fin 8 := ⟨j.val / 64, by have := j.isLt; omega⟩
/-- Its lane of the codeword. -/
def lane (j : Fin 512) : Fin 64 := ⟨j.val % 64, by omega⟩

/-- The codeword that row `r`'s code of subspace `s` names. -/
def word (r : Fin 65536) (s : Fin 8) : Fin 1024 := ⟨(a (ix2 r s) : BitVec 32).toNat % 1024, by omega⟩

/-- The decoding. -/
def decoded : S65536x512.Idx → Elt F .f32 := fun x => b (ix3 (sub (x 1)) (word a (x 0) (sub (x 1))) (lane (x 1)))

variable {a} in
theorem word_val (ha : ∀ x, (a x : BitVec 32).toNat < 1024) (r : Fin 65536) (s : Fin 8) :
    (word a r s).val = (a (ix2 r s) : BitVec 32).toNat := Nat.mod_eq_of_lt (ha _)

/-- Flat code `8 r + s` is row `r`'s code of subspace `s`. -/
theorem codesOf_flat (r : Fin 65536) (s : Fin 8) (h : 8 * r.val + s.val < 524288) :
    codesOf a (flat (8 * r.val + s.val) h) = a (ix2 r s) := by
  unfold codesOf
  refine shapeCast_apply _ _ _ _ ?_
  rw [Shape.rowMajor_val_two, Shape.rowMajor_val_one]
  show r.val * 8 + s.val = 8 * r.val + s.val
  omega

/-- Lane `k` of the table's row `1024 s + w` is lane `k` of subspace `s`'s codeword `w`. -/
theorem tableOf_cell (s : Fin 8) (w : Fin 1024) (k : Fin 64) (hr : s.val * 1024 + w.val < 8192) (hk : k.val < 128) :
    tableOf b (cell (s.val * 1024 + w.val) k.val hr hk) = b (ix3 s w k) := by
  unfold tableOf
  refine (pad_apply_of_inside _ _ _ _ _ _ _ _ (ix2 (n0 := 8192) (n1 := 64) ⟨s.val * 1024 + w.val, hr⟩ k) (fun i => ?_)).trans ?_
  · match i with
    | ⟨0, _⟩ => show s.val * 1024 + w.val = 0 + (s.val * 1024 + w.val) * (0 + 1); omega
    | ⟨1, _⟩ => show k.val = 0 + k.val * (0 + 1); omega
  · refine shapeCast_apply _ _ _ _ ?_
    rw [Shape.rowMajor_val_three, Shape.rowMajor_val_two]
    show (s.val * 1024 + w.val) * 64 + k.val = (s.val * 1024 + w.val) * 64 + k.val
    rfl

theorem cell_congr {r r' k k' : ℕ} (er : r = r') (ek : k = k') (hr : r < 8192) (hk : k < 128) (hr' : r' < 8192) (hk' : k' < 128) :
    cell r k hr hk = cell r' k' hr' hk' := by subst er; subst ek; rfl

/-- The kernel's result is the decoding. -/
theorem outC_decoded (ha : ∀ x, (a x : BitVec 32).toNat < 1024) : outC (codesOf a) (tableOf b) = decoded a b := by
  funext x
  have hx0 : (x 0).val < 65536 := (x 0).isLt
  have hx1 : (x 1).val < 512 := (x 1).isLt
  have hs : (sub (x 1)).val = (x 1).val / 64 := rfl
  have hs8 := (sub (x 1)).isLt
  have hw := (word a (x 0) (sub (x 1))).isLt
  have hl := (lane (x 1)).isLt
  unfold outC decoded
  rw [← tableOf_cell b (sub (x 1)) (word a (x 0) (sub (x 1))) (lane (x 1)) (by omega) (by omega)]
  refine congrArg (tableOf b) ?_
  unfold place
  have hn : 8 * (x 0).val + (sub (x 1)).val < 524288 := by omega
  have e : (moved (codesOf a) (8 * (x 0).val + (x 1).val / 64) hn).toNat
      = (a (ix2 (x 0) (sub (x 1))) : BitVec 32).toNat + (8 * (x 0).val + (x 1).val / 64) % 8 * 1024 :=
    (moved_toNat (fun y => ha _) _ hn).trans
      (congrArg (fun v : BitVec 32 => v.toNat + (8 * (x 0).val + (x 1).val / 64) % 8 * 1024) (codesOf_flat a (x 0) (sub (x 1)) hn))
  have hv := word_val ha (x 0) (sub (x 1))
  exact cell_congr (by rw [e]; omega) rfl _ _ _ _

end Cert.Proof.Run
-- ==== Proof.Ref.lean ====
/-
  The reference's result is the decoding. Its eight pieces are alike but for the subspace, so a piece is read once.
-/
module

public import proofs.«01_k».proof.Proof.Decode
public import proofs.«01_k».proof.Proof.Gen.ReferenceIdeal.Run
public import Idealize.ShloMosaic.Lib.Routing.Ops
public import Idealize.ShloMosaic.Lib.Affine

@[expose] public section

noncomputable section

namespace Cert.Proof.Run.Ref

open Cert.ReferenceIdeal Cert.ReferenceIdeal.Gen
open Idealize.ShloMosaic Idealize.ShloMosaic.TcCoe Idealize.SL.Sem
open Idealize.ShloMosaic.ValueIdx (ix1 ix2 ix3 eq_ix2)

variable {F : FTy → Type} [FloatOps F]

variable (a : S65536x8.Idx → Elt F .i32) (b : S8x1024x64.Idx → Elt F .f32)

theorem col_slices : ∀ s : Fin 8, S65536x8.Slices ![0, s.val] S65536x1 := by decide
theorem book_slices : ∀ s : Fin 8, S8x1024x64.Slices ![s.val, 0, 0] S1x1024x64 := by decide

/-- Column `s` of the codes. -/
def col (s : Fin 8) : IVec S65536 32 := shapeCast S65536 (extractStridedSlice S65536x1 ![0, s.val] a (col_slices s)) shapeCasts_S65536x1_S65536
/-- The indices of piece `s`: a negative code counts from the codebook's end. -/
def ind (s : Fin 8) : IVec S65536x1 32 :=
  broadcastInDim S65536x1 ![0] bcast_S65536_S65536x1_0
    (select (cmpi .slt (col (F := F) a s) (broadcastInDim S65536 ![] bcast_S_S65536 (constantI S_ 32 0#32)))
      (addi (col (F := F) a s) (broadcastInDim S65536 ![] bcast_S_S65536 (constantI S_ 32 1024#32))) (col (F := F) a s))
/-- Codebook `s`. -/
def book (s : Fin 8) : S1024x64.Idx → Elt F .f32 :=
  shapeCast S1024x64 (extractStridedSlice S1x1024x64 ![s.val, 0, 0] b (book_slices s)) shapeCasts_S1x1024x64_S1024x64
/-- Piece `s`. -/
def piece (s : Fin 8) : S65536x64.Idx → Elt F .f32 :=
  Host.gather gather_S1024x64_S65536x1_S65536x64_1_0_n_n_0_1_164 (book b s) (ind (F := F) a s)

theorem col_apply (s : Fin 8) (r : Fin 65536) : col (F := F) a s (ix1 r) = a (ix2 r s) := by
  unfold col
  refine (shapeCast_apply _ _ _ (ix2 r (0 : Fin 1)) ?_).trans (extractStridedSlice_apply _ _ _ _ (ix2 r s) fun i => ?_)
  · rw [Shape.rowMajor_val_two, Shape.rowMajor_val_one]
    show r.val * 1 + 0 = r.val
    omega
  · match i with
    | ⟨0, _⟩ => show r.val = 0 + r.val; omega
    | ⟨1, _⟩ => show s.val = s.val + 0; omega

theorem book_apply (s : Fin 8) (w : Fin 1024) (k : Fin 64) : book b s (ix2 w k) = b (ix3 s w k) := by
  unfold book
  refine (shapeCast_apply _ _ _ (ix3 (0 : Fin 1) w k) ?_).trans (extractStridedSlice_apply _ _ _ _ (ix3 s w k) fun i => ?_)
  · rw [Shape.rowMajor_val_three, Shape.rowMajor_val_two]
    show (0 * 1024 + w.val) * 64 + k.val = w.val * 64 + k.val
    omega
  · match i with
    | ⟨0, _⟩ => show s.val = s.val + 0; omega
    | ⟨1, _⟩ => show w.val = 0 + w.val; omega
    | ⟨2, _⟩ => show k.val = 0 + k.val; omega

/-- A word below 1024 isn't negative. -/
theorem not_neg (v : BitVec 32) (h : v.toNat < 1024) : IntOp.cmpi .slt v 0#32 ≠ 1#1 := by
  intro e
  have e1 := IntOp.cmpi_slt.1 e
  have e0 : (0#32).toInt = 0 := by decide
  rw [e0, BitVec.toInt_eq_toNat_cond] at e1
  split at e1 <;> omega

variable {a} in
theorem ind_apply (ha : ∀ x, (a x : BitVec 32).toNat < 1024) (s : Fin 8) (r : Fin 65536) :
    ind (F := F) a s (ix2 r (0 : Fin 1)) = BitVec.ofNat 32 (word a r s).val := by
  have hc := col_apply (F := F) a s r
  unfold ind
  refine (broadcastInDim_apply _ _ _ _ (ix1 r) fun i => ?_).trans ?_
  · match i with
    | ⟨0, _⟩ => show r.val = if (65536 : ℕ) = 1 then 0 else r.val; rw [if_neg (by decide)]
  · show Scalar.select (IntOp.cmpi .slt (col (F := F) a s (ix1 r)) 0#32) (IntOp.addi (col (F := F) a s (ix1 r)) 1024#32) (col (F := F) a s (ix1 r)) = _
    rw [hc]
    refine (if_neg (not_neg _ (ha _))).trans ?_
    refine BitVec.eq_of_toNat_eq ?_
    have := ha (ix2 r s)
    rw [BitVec.toNat_ofNat, word_val ha]
    omega

variable {a} in
theorem piece_apply (ha : ∀ x, (a x : BitVec 32).toNat < 1024) (s : Fin 8) (r : Fin 65536) (k : Fin 64) :
    piece a b s (ix2 r k) = b (ix3 s (word a r s) k) :=
  (Routing.gather_row gather_S1024x64_S65536x1_S65536x64_1_0_n_n_0_1_164 rfl rfl rfl rfl rfl (book b s) (ind (F := F) a s) r k
    (word a r s) (ind_apply ha s r) (by decide)).trans (book_apply b s _ k)

/-- The eight pieces side by side are the decoding. -/
theorem joined (ha : ∀ x, (a x : BitVec 32).toNat < 1024)
    (h : Shape.Concatenates ((List.ofFn fun s : Fin 8 => (⟨S65536x64, piece a b s⟩ : (s : Shape) × (s.Idx → Elt F .f32))).map (·.1)) S65536x512 1) :
    concatenate S65536x512 1 (List.ofFn fun s : Fin 8 => (⟨S65536x64, piece a b s⟩ : (s : Shape) × (s.Idx → Elt F .f32))) h = decoded a b := by
  funext x
  refine (concatenate_ofFn_apply 1 (fun s : Fin 8 => piece a b s) h rfl 64 rfl x (sub (x 1)) rfl (ix2 (x 0) (lane (x 1))) rfl fun i hi => ?_).trans
    (piece_apply b ha (sub (x 1)) (x 0) (lane (x 1)))
  match i with
  | ⟨0, _⟩ => rfl
  | ⟨1, _⟩ => exact absurd rfl hi

variable (m : (ℓ : Loc nD τ sig) → Buf (Elt F) ℓ)

set_option maxRecDepth 8192 in
/-- What the reference's run leaves in its result. -/
theorem res_eq (c : Dev nD) (ha : ∀ x, (m ((c.tc : Thread nD τ).loc main_arg0) x : BitVec 32).toNat < 1024) :
    Cert.ReferenceIdeal.Value.res_main_v88 m c
      = decoded (m ((c.tc : Thread nD τ).loc main_arg0)) (m ((c.tc : Thread nD τ).loc main_arg1)) :=
  (show Cert.ReferenceIdeal.Value.res_main_v88 m c = concatenate S65536x512 1
      (List.ofFn fun s : Fin 8 => (⟨S65536x64, piece (m ((c.tc : Thread nD τ).loc main_arg0)) (m ((c.tc : Thread nD τ).loc main_arg1)) s⟩ :
        (s : Shape) × (s.Idx → Elt F .f32)))
      concatenates_S65536x64_S65536x64_S65536x64_S65536x64_S65536x64_S65536x64_S65536x64_S65536x64_S65536x512_d1 from rfl).trans
    (joined _ _ ha _)

end Cert.Proof.Run.Ref
-- ==== Proof.lean ====
/-
  The claims: the kernel and its ideal reading run to an end with their arguments unchanged and every semaphore at
  zero, the reference does too, and at the ideal numbers kernel and reference return the same array. The kernel's run
  is proved once for any float values (Proof/Main.lean) and read here at the two instances.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_codes_in_range
public import proofs.«01_k».proof.Proof.Main
public import proofs.«01_k».proof.Proof.Pre
public import proofs.«01_k».proof.Proof.Ref
public import Idealize.ShloMosaic.Adequacy
public import Idealize.ShloMosaic.Init

@[expose] public section

noncomputable section

namespace Cert.Proof

open Idealize.ShloMosaic Idealize.SL.Sem

section Kernel

open Cert.Kernel

variable {F : FTy → Type} [FloatOps F]

/-- The kernel's run from codes in range: the result is the decoding of the arguments. -/
theorem kernel_run [∀ e, Nonempty (Elt F e)] (m : (ℓ : Loc nD τ sig) → Buf (Elt F) ℓ) (ρ : Dev nD → PrngReg)
    (hp : ∀ c : Dev nD, Cert.Pre_codes_in_range.fn (F := F) (m ((c.tc : Thread nD τ).loc main_arg0)) (m ((c.tc : Thread nD τ).loc main_arg1)) = fun _ => 1#1) :
    θ_run (Cert.Kernel.defs (F := F)) (Cert.Kernel.threads (F := F)) ⟨m, fun _ => 0, ρ⟩ fun r =>
      (∀ c : Dev nD, r.2.mem ((c.tc : Thread nD τ).loc main_v3)
            = Run.decoded (F := F) (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 :=
  (θ_run _ _ _).mono (fun _ h => ⟨fun c => ⟨(h.1 c).2.2.trans (Run.outC_decoded _ _ (Run.codes_lt _ _ (hp c))), (h.1 c).1, (h.1 c).2.1⟩, h.2⟩)
    (Run.run_main m ρ fun d x => Run.flat_codes_lt _ (Run.codes_lt _ _ (hp d)) x)

end Kernel

theorem frame_kernel : Cert.quiescent_Kernel := fun m ρ hp =>
  (θ_run _ _ _).mono (fun _ h => ⟨fun c => (h.1 c).2, h.2⟩) (kernel_run (F := Bits) m ρ hp)

theorem frame_kernel_ideal : Cert.quiescent_KernelIdeal := fun m ρ hp =>
  (θ_run _ _ _).mono (fun _ h => ⟨fun c => (h.1 c).2, h.2⟩) (kernel_run (F := Ideal) m ρ hp)

/-- The reference's run; it has no semaphore. -/
theorem frame_reference_ideal : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

theorem algebraic : Cert.algebraic_KernelIdeal_ReferenceIdeal := by
  intro m ρ m' ρ' hp hargs
  refine ⟨fun c => Run.decoded (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run _ _ _).mono (fun _ h => h.1) (kernel_run (F := Ideal) m ρ hp)
  · refine (θ_run _ _ _).mono (fun _ h c => ⟨(h c).1.trans ?_, (h c).2⟩) (Cert.ReferenceIdeal.Value.run (F := Ideal) m' ρ')
    refine (Run.Ref.res_eq (F := Ideal) m' c fun x => ?_).trans ?_
    · rw [(hargs c).1]
      exact Run.codes_lt _ _ (hp c) x
    · rw [(hargs c).1, (hargs c).2]

theorem claim : Cert.Claim := ⟨Cert.Kernel.Gen.facts, Cert.KernelIdeal.Gen.facts, Cert.ReferenceIdeal.Gen.facts, Cert.Pre_codes_in_range.Gen.facts,
  frame_kernel, frame_kernel_ideal, frame_reference_ideal, fun m ρ _ => frame_reference_ideal m ρ trivial, trivial, algebraic⟩

end Cert.Proof

end
